-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S320000x2 : Shape := ⟨2, ![320000, 2]⟩
abbrev S6x128 : Shape := ⟨2, ![6, 128]⟩
abbrev S3x128 : Shape := ⟨2, ![3, 128]⟩
abbrev S_ : Shape := ⟨0, ![]⟩

class Facts : Prop where
  bcast_S_S320000x2 : S_.BroadcastsInDim S320000x2 (![] : Fin 0 → Fin S320000x2.rank)
  reducesTo_S320000x2_S_d0_1 : S320000x2.ReducesTo [0, 1] S_
  h_S_ : 0 < S_.numel

variable [Facts]

def fn {F : FTy → Type} [FloatOps F] (main_arg0 : IVec S320000x2 32) (main_arg1 : FVec F S6x128 .f32) (main_arg2 : FVec F S3x128 .f32) : IVec S_ 1 :=
  let main_c : IVec S_ 32 := constantI S_ 32 0#32
  let main_v0 : IVec S320000x2 32 := broadcastInDim S320000x2 ![] bcast_S_S320000x2 main_c
  let main_v1 : IVec S320000x2 1 := cmpi .sge main_arg0 main_v0
  let main_c_0 : IVec S_ 1 := constantI S_ 1 1#1
  let main_v2 : IVec S_ 1 := (fun x v => Host.reduce IntOp.andi x v reducesTo_S320000x2_S_d0_1 h_S_) main_v1 main_c_0
  let main_c_1 : IVec S_ 32 := constantI S_ 32 3#32
  let main_v3 : IVec S320000x2 32 := broadcastInDim S320000x2 ![] bcast_S_S320000x2 main_c_1
  let main_v4 : IVec S320000x2 1 := cmpi .slt main_arg0 main_v3
  let main_c_2 : IVec S_ 1 := constantI S_ 1 1#1
  let main_v5 : IVec S_ 1 := (fun x v => Host.reduce IntOp.andi x v reducesTo_S320000x2_S_d0_1 h_S_) main_v4 main_c_2
  let main_v6 : IVec S_ 1 := andi main_v2 main_v5
  main_v6
-- ==== Kernel.lean ====
abbrev S320000x2 : Shape := ⟨2, ![320000, 2]⟩
abbrev S6x128 : Shape := ⟨2, ![6, 128]⟩
abbrev S3x128 : Shape := ⟨2, ![3, 128]⟩
abbrev S18x128 : Shape := ⟨2, ![18, 128]⟩
abbrev S1x128 : Shape := ⟨2, ![1, 128]⟩
abbrev S128 : Shape := ⟨1, ![128]⟩
abbrev S2x320000 : Shape := ⟨2, ![2, 320000]⟩
abbrev S640000 : Shape := ⟨1, ![640000]⟩
abbrev S320000x128 : Shape := ⟨2, ![320000, 128]⟩
abbrev S20000 : Shape := ⟨1, ![20000]⟩
abbrev S25x16 : Shape := ⟨2, ![25, 16]⟩
abbrev S2x400x128 : Shape := ⟨3, ![2, 400, 128]⟩
abbrev S_ : Shape := ⟨0, ![]⟩
abbrev S10000 : Shape := ⟨1, ![10000]⟩
abbrev S16 : Shape := ⟨1, ![16]⟩
abbrev S1x400x128 : Shape := ⟨3, ![1, 400, 128]⟩
abbrev S400x128 : Shape := ⟨2, ![400, 128]⟩
abbrev S1x16 : Shape := ⟨2, ![1, 16]⟩
abbrev S1x16x128 : Shape := ⟨3, ![1, 16, 128]⟩
abbrev S16x128 : Shape := ⟨2, ![16, 128]⟩

abbrev nBuf : Table → Nat
  | .hbm => 7
  | .local .tc .vmem => 3
  | .shared => 1
  | .local .scVector .vmem => 3
  | _ => 0

abbrev bufTy : (tb : Table) → Fin (nBuf tb) → BufTy
  | .hbm, ⟨0, _⟩ => ⟨S320000x2, .i32⟩
  | .hbm, ⟨1, _⟩ => ⟨S6x128, .f32⟩
  | .hbm, ⟨2, _⟩ => ⟨S3x128, .f32⟩
  | .hbm, ⟨3, _⟩ => ⟨S18x128, .f32⟩
  | .hbm, ⟨4, _⟩ => ⟨S2x320000, .i32⟩
  | .hbm, ⟨5, _⟩ => ⟨S640000, .i32⟩
  | .hbm, ⟨6, _⟩ => ⟨S320000x128, .f32⟩
  | .local .tc .vmem, ⟨0, _⟩ => ⟨S6x128, .f32⟩
  | .local .tc .vmem, ⟨1, _⟩ => ⟨S3x128, .f32⟩
  | .local .tc .vmem, ⟨2, _⟩ => ⟨S18x128, .f32⟩
  | .shared, ⟨0, _⟩ => ⟨S18x128, .f32⟩
  | .local .scVector .vmem, ⟨0, _⟩ => ⟨S20000, .i32⟩
  | .local .scVector .vmem, ⟨1, _⟩ => ⟨S25x16, .i32⟩
  | .local .scVector .vmem, ⟨2, _⟩ => ⟨S2x400x128, .f32⟩
  | _, _ => ⟨S320000x2, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 9 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 5 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v2_scv : Ref sig .scVector := ⟨.hbm, 5, rfl⟩
abbrev main_v3_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch3 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k1_off2 (i : grid1.Coords) : Fin 1 → Nat :=
  let c320000_i32 : BitVec 32 := 320000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v6 : BitVec 32 := Scalar.addi c320000_i32 v2
  ![v6.toNat]
@[reducible] def k1_t1_loop : Scf.Loop 32 :=
  let c0_i32_2 : BitVec 32 := 0#32
  let c25_i32 : BitVec 32 := 25#32
  let v8 : BitVec 32 := Scalar.addi c0_i32_2 c25_i32
  let c1_i32 : BitVec 32 := 1#32
  ⟨c0_i32_2, v8, c1_i32⟩
def k1_cond2 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_19 : BitVec 32 := 2#32
  let v22 : BitVec 1 := Scalar.cmpi .sge arg12 c2_i32_19
  let c2_i32_18 : BitVec 32 := 2#32
  let v21 : BitVec 32 := Scalar.remsi arg12 c2_i32_18
  let c0_i32_20 : BitVec 32 := 0#32
  let v23 : BitVec 1 := Scalar.cmpi .eq v21 c0_i32_20
  let v24 : BitVec 1 := Scalar.andi v22 v23
  let v25 : BitVec 32 := Scalar.extui v24
  let c0_i32_21 : BitVec 32 := 0#32
  let v26 : BitVec 1 := Scalar.cmpi .ne v25 c0_i32_21
  v26

def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_42 : BitVec 32 := 0#32
  ![v2.toNat, 0]
def k1_cond3 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_22 : BitVec 32 := 2#32
  let v27 : BitVec 1 := Scalar.cmpi .sge arg12 c2_i32_22
  let c2_i32_18 : BitVec 32 := 2#32
  let v21 : BitVec 32 := Scalar.remsi arg12 c2_i32_18
  let c1_i32_23 : BitVec 32 := 1#32
  let v28 : BitVec 1 := Scalar.cmpi .eq v21 c1_i32_23
  let v29 : BitVec 1 := Scalar.andi v27 v28
  let v30 : BitVec 32 := Scalar.extui v29
  let c0_i32_24 : BitVec 32 := 0#32
  let v31 : BitVec 1 := Scalar.cmpi .ne v30 c0_i32_24
  v31

def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_42 : BitVec 32 := 0#32
  ![v2.toNat, 0]
@[reducible] def k1_t2_loop : Scf.Loop 32 :=
  let c0_i32_26 : BitVec 32 := 0#32
  let c25_i32_27 : BitVec 32 := 25#32
  let v32 : BitVec 32 := Scalar.addi c0_i32_26 c25_i32_27
  let c1_i32_28 : BitVec 32 := 1#32
  ⟨c0_i32_26, v32, c1_i32_28⟩

def k1_chk1 (v44 : IVec S16 32) : Prop :=
  (∀ a x, ((![v44] : Fin 1 → IVec S16 32) a x).toNat < S20000.size a)
theorem k1_idx1_inb : ∀ (v44 : IVec S16 32) (k1_hw1 : k1_chk1 v44), ∀ a x, ((![v44] : Fin 1 → IVec S16 32) a x).toNat < S20000.size a := fun v44 k1_hw1 => k1_hw1

def k1_chk2 (v47 : IVec S16 32) : Prop :=
  (∀ a x, ((![v47] : Fin 1 → IVec S16 32) a x).toNat < S20000.size a)
theorem k1_idx2_inb : ∀ (v47 : IVec S16 32) (k1_hw2 : k1_chk2 v47), ∀ a x, ((![v47] : Fin 1 → IVec S16 32) a x).toNat < S20000.size a := fun v47 k1_hw2 => k1_hw2
def k1_off5 (k1_t2 : Fin k1_t2_loop.trips) : Fin 2 → Nat :=
  let c0_i32_26 : BitVec 32 := 0#32
  let c1_i32_28 : BitVec 32 := 1#32
  let arg13 : BitVec 32 := Scf.iv c0_i32_26 c1_i32_28 k1_t2
  let v52 : Index := Scalar.indexCast arg13
  let c0_40 : Index := 0#32
  ![v52.toNat, 0]
def k1_off6 (k1_t1 : Fin k1_t1_loop.trips) (k1_t2 : Fin k1_t2_loop.trips) : Fin 3 → Nat :=
  let c0_i32_2 : BitVec 32 := 0#32
  let c1_i32 : BitVec 32 := 1#32
  let arg12 : BitVec 32 := Scf.iv c0_i32_2 c1_i32 k1_t1
  let c2_i32_18 : BitVec 32 := 2#32
  let v21 : BitVec 32 := Scalar.remsi arg12 c2_i32_18
  let c0_i32_26 : BitVec 32 := 0#32
  let c1_i32_28 : BitVec 32 := 1#32
  let arg13 : BitVec 32 := Scf.iv c0_i32_26 c1_i32_28 k1_t2
  let c16_i32_41 : BitVec 32 := 16#32
  let v54 : BitVec 32 := Scalar.muli arg13 c16_i32_41
  let c0_i32_42 : BitVec 32 := 0#32
  ![v21.toNat, v54.toNat, 0]
def k1_off7 (k1_t2 : Fin k1_t2_loop.trips) : Fin 2 → Nat :=
  let c0_i32_26 : BitVec 32 := 0#32
  let c1_i32_28 : BitVec 32 := 1#32
  let arg13 : BitVec 32 := Scf.iv c0_i32_26 c1_i32_28 k1_t2
  let c0_i32_43 : BitVec 32 := 0#32
  ![arg13.toNat, 0]
@[reducible] def k1_t3_loop : Scf.Loop 32 :=
  let c0_i32_31 : BitVec 32 := 0#32
  let c25_i32_32 : BitVec 32 := 25#32
  let v33 : BitVec 32 := Scalar.addi c0_i32_31 c25_i32_32
  let c1_i32_33 : BitVec 32 := 1#32
  ⟨c0_i32_31, v33, c1_i32_33⟩
def k1_off8 (k1_t1 : Fin k1_t1_loop.trips) : Fin 3 → Nat :=
  let c0_i32_2 : BitVec 32 := 0#32
  let c1_i32 : BitVec 32 := 1#32
  let arg12 : BitVec 32 := Scf.iv c0_i32_2 c1_i32 k1_t1
  let c2_i32_18 : BitVec 32 := 2#32
  let v21 : BitVec 32 := Scalar.remsi arg12 c2_i32_18
  let c0_i32_39 : BitVec 32 := 0#32
  let c0_i32_40 : BitVec 32 := 0#32
  ![v21.toNat, 0, 0]
def k1_off9 (k1_t3 : Fin k1_t3_loop.trips) : Fin 2 → Nat :=
  let c0_i32_31 : BitVec 32 := 0#32
  let c1_i32_33 : BitVec 32 := 1#32
  let arg13 : BitVec 32 := Scf.iv c0_i32_31 c1_i32_33 k1_t3
  let c0_i32_41 : BitVec 32 := 0#32
  ![arg13.toNat, 0]
def k1_cond4 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_18 : BitVec 32 := 2#32
  let v21 : BitVec 32 := Scalar.remsi arg12 c2_i32_18
  let c0_i32_35 : BitVec 32 := 0#32
  let v34 : BitVec 1 := Scalar.cmpi .eq v21 c0_i32_35
  let v35 : BitVec 32 := Scalar.extui v34
  let c0_i32_36 : BitVec 32 := 0#32
  let v36 : BitVec 1 := Scalar.cmpi .ne v35 c0_i32_36
  v36

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_2 : BitVec 32 := 0#32
  let c1_i32 : BitVec 32 := 1#32
  let arg12 : BitVec 32 := Scf.iv c0_i32_2 c1_i32 k1_t1
  let c400_i32 : BitVec 32 := 400#32
  let v40 : BitVec 32 := Scalar.muli arg12 c400_i32
  let v41 : BitVec 32 := Scalar.addi v2 v40
  let c0_i32_42 : BitVec 32 := 0#32
  ![v41.toNat, 0]
def k1_cond5 (k1_t1 : Fin k1_t1_loop.trips) : BitVec 1 :=
  let c0_i32_2 : BitVec 32 := 0#32
  let c1_i32 : BitVec 32 := 1#32
  let arg12 : BitVec 32 := Scf.iv c0_i32_2 c1_i32 k1_t1
  let c2_i32_18 : BitVec 32 := 2#32
  let v21 : BitVec 32 := Scalar.remsi arg12 c2_i32_18
  let c1_i32_37 : BitVec 32 := 1#32
  let v37 : BitVec 1 := Scalar.cmpi .eq v21 c1_i32_37
  let v38 : BitVec 32 := Scalar.extui v37
  let c0_i32_38 : BitVec 32 := 0#32
  let v39 : BitVec 1 := Scalar.cmpi .ne v38 c0_i32_38
  v39

def k1_off11 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_2 : BitVec 32 := 0#32
  let c1_i32 : BitVec 32 := 1#32
  let arg12 : BitVec 32 := Scf.iv c0_i32_2 c1_i32 k1_t1
  let c400_i32 : BitVec 32 := 400#32
  let v40 : BitVec 32 := Scalar.muli arg12 c400_i32
  let v41 : BitVec 32 := Scalar.addi v2 v40
  let c0_i32_42 : BitVec 32 := 0#32
  ![v41.toNat, 0]
def k1_off12 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_7 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x2 : Shape := ⟨2, ![320000, 2]⟩
abbrev S6x128 : Shape := ⟨2, ![6, 128]⟩
abbrev S3x128 : Shape := ⟨2, ![3, 128]⟩
abbrev S320000x1 : Shape := ⟨2, ![320000, 1]⟩
abbrev S320000 : Shape := ⟨1, ![320000]⟩
abbrev S_ : Shape := ⟨0, ![]⟩
abbrev S1 : Shape := ⟨1, ![1]⟩
abbrev S1x1 : Shape := ⟨2, ![1, 1]⟩
abbrev S320000x128 : Shape := ⟨2, ![320000, 128]⟩

abbrev nBuf : Space → Nat
  | .hbm => 54
  | .vmem => 0
  | .smem => 0
  | _ => 0

abbrev bufTy : (tb : Table) → Fin (tcTables nBuf tb) → BufTy
  | .hbm, ⟨0, _⟩ => ⟨S320000x2, .i32⟩
  | .hbm, ⟨1, _⟩ => ⟨S6x128, .f32⟩
  | .hbm, ⟨2, _⟩ => ⟨S3x128, .f32⟩
  | .hbm, ⟨3, _⟩ => ⟨S320000x1, .i32⟩
  | .hbm, ⟨4, _⟩ => ⟨S320000, .i32⟩
  | .hbm, ⟨5, _⟩ => ⟨S_, .i32⟩
  | .hbm, ⟨6, _⟩ => ⟨S320000, .i32⟩
  | .hbm, ⟨7, _⟩ => ⟨S320000, .i1⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S320000, .i32⟩
  | .hbm, ⟨12, _⟩ => ⟨S320000x1, .i32⟩
  | .hbm, ⟨13, _⟩ => ⟨S1, .i32⟩
  | .hbm, ⟨14, _⟩ => ⟨S_, .i32⟩
  | .hbm, ⟨15, _⟩ => ⟨S320000x1, .i32⟩
  | .hbm, ⟨16, _⟩ => ⟨S320000x1, .i1⟩
  | .hbm, ⟨17, _⟩ => ⟨S1x1, .i32⟩
  | .hbm, ⟨18, _⟩ => ⟨S320000x1, .i32⟩
  | .hbm, ⟨19, _⟩ => ⟨S320000x1, .i1⟩
  | .hbm, ⟨20, _⟩ => ⟨S320000x1, .i1⟩
  | .hbm, ⟨21, _⟩ => ⟨S_, .i1⟩
  | .hbm, ⟨22, _⟩ => ⟨S320000, .i1⟩
  | .hbm, ⟨23, _⟩ => ⟨S320000x128, .f32⟩
  | .hbm, ⟨24, _⟩ => ⟨S320000x128, .i1⟩
  | .hbm, ⟨25, _⟩ => ⟨S_, .f32⟩
  | .hbm, ⟨26, _⟩ => ⟨S320000x128, .f32⟩
  | .hbm, ⟨27, _⟩ => ⟨S320000x128, .f32⟩
  | .hbm, ⟨28, _⟩ => ⟨S320000x1, .i32⟩
  | .hbm, ⟨29, _⟩ => ⟨S320000, .i32⟩
  | .hbm, ⟨30, _⟩ => ⟨S_, .i32⟩
  | .hbm, ⟨31, _⟩ => ⟨S320000, .i32⟩
  | .hbm, ⟨32, _⟩ => ⟨S320000, .i1⟩
  | .hbm, ⟨33, _⟩ => ⟨S_, .i32⟩
  | .hbm, ⟨34, _⟩ => ⟨S320000, .i32⟩
  | .hbm, ⟨35, _⟩ => ⟨S320000, .i32⟩
  | .hbm, ⟨36, _⟩ => ⟨S320000, .i32⟩
  | .hbm, ⟨37, _⟩ => ⟨S320000x1, .i32⟩
  | .hbm, ⟨38, _⟩ => ⟨S1, .i32⟩
  | .hbm, ⟨39, _⟩ => ⟨S_, .i32⟩
  | .hbm, ⟨40, _⟩ => ⟨S320000x1, .i32⟩
  | .hbm, ⟨41, _⟩ => ⟨S320000x1, .i1⟩
  | .hbm, ⟨42, _⟩ => ⟨S1x1, .i32⟩
  | .hbm, ⟨43, _⟩ => ⟨S320000x1, .i32⟩
  | .hbm, ⟨44, _⟩ => ⟨S320000x1, .i1⟩
  | .hbm, ⟨45, _⟩ => ⟨S320000x1, .i1⟩
  | .hbm, ⟨46, _⟩ => ⟨S_, .i1⟩
  | .hbm, ⟨47, _⟩ => ⟨S320000, .i1⟩
  | .hbm, ⟨48, _⟩ => ⟨S320000x128, .f32⟩
  | .hbm, ⟨49, _⟩ => ⟨S320000x128, .i1⟩
  | .hbm, ⟨50, _⟩ => ⟨S_, .f32⟩
  | .hbm, ⟨51, _⟩ => ⟨S320000x128, .f32⟩
  | .hbm, ⟨52, _⟩ => ⟨S320000x128, .f32⟩
  | .hbm, ⟨53, _⟩ => ⟨S320000x128, .f32⟩
  | _, _ => ⟨S320000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]
-- ==== Proof.GatherBatch.lean ====
/-
  Indirect gathers outstanding together on one semaphore. A gather of `o` rows is, to the counter it completes on,
  `o` transfers of one row each, whichever entry is served first. So a run of gathers that share a semaphore is one
  counted batch of rows (`Transfers.Batch`): each gather takes the next `o` issue rights, each wait consumes `o` rows'
  worth of units and learns nothing, and once every unit is consumed every row is back.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch batchBody pending)

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- What is pending from `j` on is the next `o` and what is pending from `j + o` on. -/
theorem pending_take {n : ℕ} (Φ : Fin n → sProp 𝕄) (j o : ℕ) (h : j + o ≤ n) :
    bigSep (pending j) Φ
      = iprop(bigSep Finset.univ (fun i : Fin o => Φ ⟨j + i.val, by have := i.isLt; omega⟩) ∗ bigSep (pending (j + o)) Φ) := by
  classical
  let next : Fin o ↪ Fin n := ⟨fun i => ⟨j + i.val, by have := i.isLt; omega⟩, fun a b hab => by
    have h' : j + a.val = j + b.val := congrArg Fin.val hab
    exact Fin.ext (by omega)⟩
  have hcut : pending (n := n) j = Finset.univ.map next ∪ pending (j + o) := by
    ext t
    simp only [pending, Finset.mem_filter, Finset.mem_univ, true_and, Finset.mem_union, Finset.mem_map]
    constructor
    · intro ht
      by_cases hlt : t.val < j + o
      · exact Or.inl ⟨⟨t.val - j, by omega⟩, Fin.ext (show j + (t.val - j) = t.val by omega)⟩
      · exact Or.inr (by omega)
    · rintro (⟨i, rfl⟩ | ht)
      · exact Nat.le_add_right j i.val
      · omega
  have hdis : Disjoint (Finset.univ.map next) (pending (n := n) (j + o)) := by
    refine Finset.disjoint_left.mpr fun t ht ht' => ?_
    obtain ⟨i, -, rfl⟩ := Finset.mem_map.mp ht
    have h1 : j + o ≤ (next i).val := (Finset.mem_filter.mp ht').2
    have h2 : (next i).val = j + i.val := rfl
    have := i.isLt
    omega
  rw [hcut, BI.bigSep_union hdis, BI.bigSep_map]
  rfl

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- One row of a gather, returned: row `j` of the destination at contents `g`, entry `j` of the list, and row `j`'s
    piece of the share of the source. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q : PosShare TreeShare) (fs : Buf (Elt F) (src.view.loc c)) (g : Buf (Elt F) (dst.view.loc c))
    (fo : Buf (Elt F) (offs.view.loc c)) (j : Fin (s.size hg.axis')) : sProp 𝕄 :=
  iprop((dst.view.loc c ↦[(dst.view.slice (s.rowRect hg.axis' j)).set]{fullShare} g)
    ∗ (offs.view.loc c ↦[{offs.view.emb (si.rowMajor.symm (j.cast hn.symm))}]{fullShare} fo)
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q : PosShare TreeShare) (fs : Buf (Elt F) (src.view.loc c)) (g : Buf (Elt F) (dst.view.loc c))
    (fo : Buf (Elt F) (offs.view.loc c)) (j : Fin (s.size hg.axis')) :
    Storable (upEmb : UEmb _ 𝕄) (rowBack (F := F) c src dst hg offs hn ho q fs g fo j) := by
  unfold rowBack; infer_instance

/-- Every row of a gather returned is its destination at `g`, its list, and its share of the source. -/
theorem rowsBack_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q : PosShare TreeShare) (fs : Buf (Elt F) (src.view.loc c)) (g : Buf (Elt F) (dst.view.loc c))
    (fo : Buf (Elt F) (offs.view.loc c)) :
    bigSep Finset.univ (fun j => rowBack (F := F) c src dst hg offs hn ho q fs g fo j)
      ⊢ (iprop((dst.view.loc c ↦[dst.view.set]{fullShare} g) ∗ (offs.view.loc c ↦[offs.view.set]{fullShare} fo)
          ∗ (src.view.loc c ↦[src.view.set]{q} fs)) : sProp 𝕄) := by
  have hen : Function.Bijective fun j : Fin (s.size hg.axis') => si.rowMajor.symm (j.cast hn.symm) :=
    si.rowMajor.symm.bijective.comp (finCongr hn.symm).bijective
  unfold rowBack
  iintro H
  ihave H1 := Transfers.bigSep_sep_out _ _ _ $$ H
  icases H1 with ⟨Hd, H2⟩
  ihave H3 := Transfers.bigSep_sep_out _ _ _ $$ H2
  icases H3 with ⟨Ho, Hs⟩
  isplitl [Hd]; · iapply (Entails.of_eq (pointsTo_rows c dst.view hg.axis' fullShare g).symm) $$ Hd
  isplitl [Ho]; · iapply (Entails.of_eq (pointsTo_entries c offs.view _ hen fullShare fo).symm) $$ Ho
  iapply (Entails.of_eq (pointsTo_piecesOf (src.view.set) fs ho q).symm) $$ Hs

/-- A gather issued into a batch of rows, `j` of them issued so far: the destination outright, the list outright with
    every word in range, a share of the source, and the batch; afterwards the batch with this gather's rows issued too.
    `g` is what the destination holds when its rows are back: the source's row at the word the list has for each. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {n : ℕ} {D : Fin n → sProp 𝕄} {j u : ℕ}
    {q : PosShare TreeShare} {fs : Buf (Elt F) (src.view.loc c)} {fd g : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hval : ∀ x, dst.view.read (Elt F) g x = gatherPayload hg (src.view.read (Elt F) fs) (rows (offs.view.read (Elt F) fo) hn hin) x)
    (hj : j + s.size hg.axis' ≤ n) (hu : u ≤ j * N)
    (hD : ∀ i : Fin (s.size hg.axis'), rowBack (F := F) c src dst hg offs hn ho q fs g fo i ⊢ D ⟨j + i.val, by have := i.isLt; omega⟩) :
    iprop((src.view.loc c ↦[src.view.set]{q} fs) ∗ (dst.view.loc c ↦[dst.view.set]{fullShare} fd)
        ∗ (offs.view.loc c ↦[offs.view.set]{fullShare} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro i w w' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (rd i).dst.view.dmaCredit = s.size hg.axis' * N := by
    rw [Finset.sum_congr rfl fun i _ => hN i, Finset.sum_const, Finset.card_univ, Fintype.card_fin, smul_eq_mul]
  have hen : Function.Bijective S.entry := si.rowMajor.symm.bijective.comp (finCongr hn.symm).bijective
  -- a row, written with what its entry names, is the row at `g`
  have hrowval : ∀ (i : Fin (s.size hg.axis')) (x : Idx (dst.view.loc c)), x ∈ (dst.view.slice (s.rowRect hg.axis' i)).set →
      (dst.view.slice (s.rowRect hg.axis' i)).write (Elt F) fd (fun y => src.view.read (Elt F) fs (hg.rowIdx (r i) y)) Finset.univ x = g x := by
    intro i x hx
    obtain ⟨y, -, rfl⟩ := Finset.mem_map.mp hx
    rw [View.write_emb_of_mem (Val := Elt F) (v := dst.view.slice (s.rowRect hg.axis' i)) fd _ (M := Finset.univ) (Finset.mem_univ y)]
    have h := (hval ((s.rowRect hg.axis' i).emb y)).trans
      (congrArg (src.view.read (Elt F) fs) (Shape.Gathers.idx_rowRect_emb hg r i y))
    rw [← h, View.read_apply, cast_cast, cast_eq]
    rfl
  have hback : ∀ i : Fin (s.size hg.axis'),
      iprop(((dst.view.loc c ↦[(dst.view.slice (s.rowRect hg.axis' i)).set]{fullShare} ((dst.view.slice (s.rowRect hg.axis' i)).write (Elt F) fd (fun y => src.view.read (Elt F) fs (hg.rowIdx (r i) y)) Finset.univ))
          ∗ S.heldEntry fullShare fo i) ∗ (src.view.loc c ↦[src.view.set]{pieceOf q _ ho i} fs))
        ⊢ D ⟨j + i.val, by have := i.isLt; omega⟩ := fun i => by
    rw [pointsTo_congr (hrowval i)]
    iintro ⟨⟨Hr, He⟩, Hsq⟩
    iapply (hD i)
    unfold rowBack
    isplitl [Hr]; · iexact Hr
    isplitl [He]; · iexact He
    iexact Hsq
  unfold Batch
  iintro ⟨Hs, Hd, Ho, ⟨%γ, %γ₀, %κ, #Hinv, HI, H0, Hcred⟩⟩ Hk
  ihave HI' := (Entails.of_eq (pending_take (fun t => count EC (γ t) 0) j _ hj)) $$ HI
  icases HI' with ⟨Hγ, HI⟩
  ihave Hd' := (Entails.of_eq (pointsTo_rows c dst.view hg.axis' fullShare fd)) $$ Hd
  ihave Ho' := (Entails.of_eq (pointsTo_entries c offs.view S.entry hen fullShare fo)) $$ Ho
  ihave Hs' := (Entails.of_eq (pointsTo_piecesOf (src.view.set) fs ho q)) $$ Hs
  iapply (wp_enqueueIndirectDma 𝒱 c bd Set.univ (qo := fullShare) (fo := fo) (rd := rd) ι (s.size hg.axis' * N) hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd) ∗ S.heldEntry fullShare fo i)
          ∗ (src.view.loc c ↦[src.view.set]{pieceOf q _ ho i} fs)) ∗ count EC (γ ⟨j + i.val, by have := i.isLt; omega⟩) 0))
        ⊢ iprop(S.heldEntry fullShare fo i ∗ (S.heldEntry fullShare fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare} ((dst.view.slice (s.rowRect hg.axis' i)).write (Elt F) fd (fun y => src.view.read (Elt F) fs (hg.rowIdx (r i) y)) Finset.univ)) ∗ S.heldEntry fullShare fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (SemLoc.dma sem) = N from hN i]
        iapply (Transfers.batch_creditUpdate EC (N := N) (D := D) (γ₀ := γ₀) (ι := κ) ⟨j + i.val, by have := i.isLt; omega⟩ (hback i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.Common.lean ====
/-
  The launch set-up of the edge-embedding kernel: the program as the launch theorem sees it, the resource algebra, the
  buffers and their contents, the barrier's schedule, and what the handshakes between the threads carry.

  Thirty-two tiles (two SparseCores of sixteen) each own ten thousand rows of the result. Tile `0` of a SparseCore copies
  the table of the eighteen sums into the SparseCore's shared vector memory, and at the barrier hands every tile of its
  SparseCore a read share of it; every tile then gathers rows of it into its own result rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.GatherBatch

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake semaphores are four different ones, none of them a task's own. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier's, the TensorCore pipeline's, the copies' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's rounds. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
/-- The copies' counters. -/
abbrev EC : UEmb Counters (MT nD τ sig (HIx 1) (Elt F) ℕ UU ℕ) := countersEmb

/-! ## The buffers -/

abbrev cLoc (d : Dev nD) : Loc nD τ sig := (SparseCore.T d).loc main_v0
abbrev aLoc (d : Dev nD) : Loc nD τ sig := (SparseCore.T d).loc main_v2
abbrev oLoc (d : Dev nD) : Loc nD τ sig := (SparseCore.T d).loc main_v3

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- A SparseCore has sixteen tiles. -/
theorem nSub_eq : τ.nSub = 16 := rfl
/-- A device has two SparseCores. -/
theorem nSC_eq : τ.nSC = 2 := rfl

/-! ## Contents -/

/-- Word `n` of the raveled attributes. -/
def attrAt (f : S640000.Idx → BitVec 32) (n : ℕ) : BitVec 32 := if h : n < 640000 then f (fun a => ⟨n, by match a with | 0 => exact h⟩) else 0#32

/-- The index of row `r` (kept within the table), column `c`, of the table of sums. -/
def cix (r : ℕ) (c : Fin 128) : S18x128.Idx := fun a => match a with
  | 0 => ⟨r % 18, Nat.mod_lt _ (by decide)⟩
  | 1 => c

/-- The row of the table of sums that edge `e` takes: three times its first attribute, and its second. -/
def word (f : S640000.Idx → BitVec 32) (e : ℕ) : BitVec 32 := attrAt f e * 3#32 + attrAt f (320000 + e)

/-- The result, from the table of sums and the raveled attributes. -/
def outOf (C : S18x128.Idx → Elt F .f32) (A : S640000.Idx → BitVec 32) : S320000x128.Idx → Elt F .f32 :=
  fun x => C (cix (word A (x 0).val).toNat (x 1))

/-- Rows `lo` to `lo + n` of the result. -/
def rowsOf (lo n : ℕ) : Finset S320000x128.Idx := Finset.univ.filter fun x => lo ≤ (x 0).val ∧ (x 0).val < lo + n

/-- An index lies in rows `lo` to `lo + n` if its row does. -/
theorem mem_rowsOf {lo n : ℕ} {x : S320000x128.Idx} : x ∈ rowsOf lo n ↔ lo ≤ (x 0).val ∧ (x 0).val < lo + n := by
  unfold rowsOf; rw [Finset.mem_filter]; exact ⟨fun h => h.2, fun h => ⟨Finset.mem_univ _, h⟩⟩

/-- The first row of tile `i` of SparseCore `c`. -/
abbrev base (c : Fin τ.nSC) (i : Fin τ.nSub) : ℕ := 20000 * i.val + 10000 * c.val
/-- The rows of the result that tile `i` of SparseCore `c` writes. -/
abbrev tileRows (c : Fin τ.nSC) (i : Fin τ.nSub) : Finset S320000x128.Idx := rowsOf (base c i) 10000

/-- Member by member. -/
theorem bigSep_mono' {I : Type} {s : Finset I} {Φ Ψ : I → sProp 𝕄} (h : ∀ i ∈ s, Φ i ⊢ Ψ i) : bigSep s Φ ⊢ bigSep s Ψ := BI.bigSep_mono h

/-- Two disjoint sets of elements held are their union held. -/
theorem pts_cut {ℓ : Loc nD τ sig} {I J : Finset (Idx ℓ)} (q : PosShare TreeShare) (f : Buf (Elt F) ℓ) (h : Disjoint I J) :
    (ℓ ↦[I ∪ J]{q} f : sProp 𝕄) = iprop((ℓ ↦[I]{q} f) ∗ ℓ ↦[J]{q} f) := by
  have hu : (ℓ ↦[I ∪ J]{q} f : sProp 𝕄) ⊣⊢ iprop((ℓ ↦[I]{q} f) ∗ ℓ ↦[J]{q} f) := pointsTo_union h
  exact BI.equiv_iff.mp ⟨hu.1, hu.2⟩

/-! ## Shares -/

/-- SparseCore `c`'s part of an array both SparseCores read. -/
abbrev qc (c : Fin τ.nSC) : PosShare TreeShare := pieceOf fullShare 2 (by decide) (Fin.cast nSC_eq c)
/-- Tile `i`'s part of that. -/
abbrev qt (c : Fin τ.nSC) (i : Fin τ.nSub) : PosShare TreeShare := pieceOf (qc c) 16 (by decide) (Fin.cast nSub_eq i)
/-- Tile `i`'s part of its SparseCore's shared scratch. -/
abbrev qs (i : Fin τ.nSub) : PosShare TreeShare := pieceOf fullShare 16 (by decide) (Fin.cast nSub_eq i)

/-! ## The barrier cells -/

/-- Tile `(c, j)`'s barrier semaphore of device `d`. -/
abbrev bcell (d : Dev nD) (c : Fin τ.nSC) (j : Fin τ.nSub) : GSem nD τ sig := (V d c j, .reg sc_bar0)

/-- The barrier's semaphore is not the one that starts a tile. -/
theorem sc_bar0_ne_go : (sc_bar0 : Sem sig) ≠ sc_go := by decide

/-- Whether a semaphore is a tile's barrier semaphore. -/
def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Run

variable (CT : Dev nD → S18x128.Idx → Elt F .f32) (AT : Dev nD → S640000.Idx → BitVec 32)

/-- A part of the shared scratch, at the table of sums. -/
abbrev shPts (d : Dev nD) (c : Fin τ.nSC) (q : PosShare TreeShare) : sProp 𝕄 := shLoc d c ↦{q} (CT d : Buf (Elt F) (shLoc d c))

/-- What a duty in tile `j`'s round hands over: tile `0`'s, tile `j`'s part of the shared scratch, the table of sums in it; the others', nothing. -/
def bPay (g : GSem nD τ sig) (n : ℕ) : sProp 𝕄 :=
  match g with
  | ((d, .scVector c j), _) => if n = 0 then shPts CT d c (qs j) else iprop(emp)
  | _ => iprop(emp)

/-- The barrier cells' schedule: one round on each, of one unit duty per tile of the SparseCore, named by its number. -/
def bRd : Rounds.Schedule (GSem nD τ sig) ℕ 𝕄 where
  duties g r := if isBar g ∧ r = 0 then (Finset.univ : Finset (Fin τ.nSub)).image Fin.val else ∅
  amount _ _ _ := 1
  payload g _ n := bPay CT g n
  amount_pos _ _ _ _ := Nat.one_pos

instance bRd_payload_storable (g : GSem nD τ sig) (r n : ℕ) : BI.Storable (upEmb : UEmb _ 𝕄) ((bRd CT).payload g r n) := by
  show BI.Storable upEmb (bPay CT g n)
  unfold bPay
  rcases g with ⟨⟨d, _ | c | ⟨c, i⟩⟩, sm⟩ <;> dsimp only <;> (repeat' split) <;> infer_instance

/-- Nothing, any number of times, is nothing. -/
theorem bigSep_emp' {I : Type} (s : Finset I) : (bigSep s fun _ => iprop(emp)) = (iprop(emp) : sProp 𝕄) := bigSep_emp_const s

/-- Round 0 of a barrier cell has one duty per tile of the SparseCore. -/
theorem bRd_duties₀ (d : Dev nD) (c : Fin τ.nSC) (j : Fin τ.nSub) : (bRd CT).duties (bcell d c j) 0 = (Finset.univ : Finset (Fin τ.nSub)).image Fin.val := by
  simp [bRd, isBar]
/-- No later round has a duty. -/
theorem bRd_duties_succ (g : GSem nD τ sig) (r : ℕ) (hr : 1 ≤ r) : (bRd CT).duties g r = ∅ :=
  if_neg fun h => absurd h.2 (Nat.ne_of_gt hr)
/-- Each tile has its duty in round 0 of each barrier cell of its SparseCore. -/
theorem bRd_mem₀ (d : Dev nD) (c : Fin τ.nSC) (j i : Fin τ.nSub) : i.val ∈ (bRd CT).duties (bcell d c j) 0 := by
  rw [bRd_duties₀]; exact Finset.mem_image_of_mem _ (Finset.mem_univ i)
/-- A barrier cell's round 0 brings as many units as the SparseCore has tiles. -/
theorem bRd_expect (d : Dev nD) (c : Fin τ.nSC) (j : Fin τ.nSub) : 0 + grid1.bound 1 = (bRd CT).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore. -/
def oxV (d : Dev nD) (c : Fin τ.nSC) : CellTallies nD τ sig (HIx 1) := ∑ j : Fin (grid1.bound 1), tallyAt (bcell d c (j.castLE hsub1)) (some 0) 1

/-- A tile owes nothing for the barrier under the index of copies. -/
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

/-- What a tile owes for the barrier lies on its SparseCore's barrier cells, under the call's index. -/
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every cell invariant of its SparseCore, that each has reached round 0, its own position,
    its token in every tile's round, and the credit for the sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd CT) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

variable (m : (ℓ : Loc nD τ sig) → Buf (Elt F) ℓ)

abbrev cPts (d : Dev nD) (q : PosShare TreeShare) : sProp 𝕄 := cLoc d ↦{q} (CT d : Buf (Elt F) (cLoc d))
abbrev aPts (d : Dev nD) (q : PosShare TreeShare) : sProp 𝕄 := aLoc d ↦{q} (AT d : Buf (Elt F) (aLoc d))
abbrev outV (d : Dev nD) : Buf (Elt F) (oLoc d) := outOf (CT d) (AT d)
abbrev oPts (d : Dev nD) (I : Finset S320000x128.Idx) (f : Buf (Elt F) (oLoc d)) : sProp 𝕄 := oLoc d ↦[I]{fullShare} f
/-- The rows SparseCore `c` writes, tile by tile. -/
abbrev oCore (d : Dev nD) (c : Fin τ.nSC) (f : Buf (Elt F) (oLoc d)) : sProp 𝕄 :=
  bigSep Finset.univ fun i : Fin τ.nSub => oPts d (tileRows c i) f
/-- What only tile `0` of a SparseCore takes: the part of the table it copies, and the shared scratch it fills. -/
abbrev goFirst (d : Dev nD) (c : Fin τ.nSC) (i : Fin τ.nSub) : sProp 𝕄 :=
  if i.val = 0 then iprop(cPts CT d (qc c) ∗ ∃ f : Buf (Elt F) (shLoc d c), shLoc d c ↦{fullShare} f) else iprop(emp)
/-- What only tile `0` brings back. -/
abbrev tdFirst (d : Dev nD) (c : Fin τ.nSC) (i : Fin τ.nSub) : sProp 𝕄 := if i.val = 0 then cPts CT d (qc c) else iprop(emp)
/-- A tile's task: what it takes. -/
abbrev goT (d : Dev nD) (c : Fin τ.nSC) (i : Fin τ.nSub) : sProp 𝕄 :=
  iprop(aPts AT d (qt c i) ∗ oPts d (tileRows c i) (m (oLoc d)) ∗ goFirst CT d c i)
/-- A tile's task: what it brings back. -/
abbrev tdT (d : Dev nD) (c : Fin τ.nSC) (i : Fin τ.nSub) : sProp 𝕄 :=
  iprop((aPts AT d (qt c i) ∗ oPts d (tileRows c i) (outV CT AT d) ∗ tdFirst CT d c i ∗ shPts CT d c (qs i)) ∗ semVal (bcell d c i) 0)
/-- The barrier semaphores of SparseCore `c`, at zero. -/
abbrev bars (d : Dev nD) (c : Fin τ.nSC) : sProp 𝕄 := bigSep Finset.univ fun i : Fin τ.nSub => semVal (bcell d c i) 0

instance goFirst_storable (d : Dev nD) (c : Fin τ.nSC) (i : Fin τ.nSub) : BI.Storable (upEmb : UEmb _ 𝕄) (goFirst CT d c i) := by
  unfold goFirst; split <;> infer_instance
instance tdFirst_storable (d : Dev nD) (c : Fin τ.nSC) (i : Fin τ.nSub) : BI.Storable (upEmb : UEmb _ 𝕄) (tdFirst CT d c i) := by
  unfold tdFirst; split <;> infer_instance

variable [FloatOps F]

/-- The SparseCore of the call's core number `c`, and the tile of its subcore number `i`. -/
abbrev coreOf (c : Fin ((K (F := F)).nCore 0)) : Fin τ.nSC := (K (F := F)).core 0 c
abbrev subOf (i : Fin ((K (F := F)).nSub 0)) : Fin τ.nSub := (K (F := F)).sub 0 i

set_option backward.proofsInPublic true in
/-- The call takes, for each SparseCore, its part of the table and of the attributes and the result rows it writes, and
    brings them back with the rows written and the barrier semaphores at zero. -/
def P : (K (F := F)).Pay (nD := nD) (Val := Elt F) (Name := ℕ) (U := UU) where
  st := fun q d c => match q with | 0 => iprop(cPts CT d (qc (coreOf c)) ∗ aPts AT d (qc (coreOf c)) ∗ oCore d (coreOf c) (m (oLoc d)))
  dn := fun q d c => match q with | 0 => iprop((cPts CT d (qc (coreOf c)) ∗ aPts AT d (qc (coreOf c)) ∗ oCore d (coreOf c) (outV CT AT d)) ∗ bars d (coreOf c))
  go := fun q d c i => match q with | 0 => goT CT AT m d (coreOf c) (subOf i)
  td := fun q d c i => match q with | 0 => tdT CT AT d (coreOf c) (subOf i)
  x := fun _ thr => match thr with
    | (d, .scVector c i) => bkit CT d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) CT AT m).IsStorable where
  st q d c := match q with
    | 0 => (inferInstance : BI.Storable (upEmb : UEmb _ 𝕄) iprop(cPts CT d (qc (coreOf (F := F) c)) ∗ aPts AT d (qc (coreOf (F := F) c)) ∗ oCore d (coreOf (F := F) c) (m (oLoc d))))
  dn q d c := match q with
    | 0 => (inferInstance : BI.Storable (upEmb : UEmb _ 𝕄) iprop((cPts CT d (qc (coreOf (F := F) c)) ∗ aPts AT d (qc (coreOf (F := F) c)) ∗ oCore d (coreOf (F := F) c) (outV CT AT d)) ∗ bars d (coreOf (F := F) c)))
  go q d c i := match q with
    | 0 => (inferInstance : BI.Storable (upEmb : UEmb _ 𝕄) (goT CT AT m d (coreOf (F := F) c) (subOf (F := F) i)))
  td q d c i := match q with
    | 0 => (inferInstance : BI.Storable (upEmb : UEmb _ 𝕄) (tdT CT AT d (coreOf (F := F) c) (subOf (F := F) i)))

end Run

end Cert.Proof.Edge

end
-- ==== Proof.Views.lean ====
/-
  The slices a tile works through, as sets of coordinates, and the contents each buffer holds, as functions of coordinates.

  A tile's result rows are worked through in twenty-five chunks of four hundred; chunk `g` goes through slot `g % 2` of the
  row scratch, in twenty-five windows of sixteen rows, window `k` gathered through row `k` of the list scratch.
-/
module

public import proofs.«01_k».proof.Proof.Common
public import Idealize.ShloMosaic.Lib.ValueLayout

@[expose] public section

noncomputable section

namespace Cert.Proof.Edge

open Cert.KernelIdeal Cert.KernelIdeal.Gen

open Idealize.ShloMosaic
open Idealize.ShloMosaic.ValueIdx (ix1 ix2 ix3 eq_ix1 eq_ix2)

variable {F : FTy → Type}

/-! ## The memrefs a tile's program is handed -/

abbrev cV' : Memref sig .scVector .hbm S18x128 .f32 := Memref.whole main_v0_scv
abbrev aV' : Memref sig .scVector .hbm S640000 .i32 := Memref.whole main_v2_scv
abbrev oV' : Memref sig .scVector .hbm S320000x128 .f32 := Memref.whole main_v3_scv
abbrev atV : Memref sig .scVector .vmem S20000 .i32 := Memref.whole cc1_scratch0
abbrev ixV : Memref sig .scVector .vmem S25x16 .i32 := Memref.whole cc1_scratch1
abbrev bfV : Memref sig .scVector .vmem S2x400x128 .f32 := Memref.whole cc1_scratch2
abbrev shV : Memref sig .scVector .shared S18x128 .f32 := Memref.whole cc1_scratch3

/-- Window `k` of chunk `g`'s slot, row `k` of the lists, the whole table: what a gather names. -/
abbrev dstW (g : Fin k1_t1_loop.trips) (k : Fin k1_t2_loop.trips) : Memref sig .scVector .vmem S16x128 .f32 :=
  (bfV.slice (Rect.unit (s := S2x400x128) (k1_off6 g k) S1x16x128.size (k1_off6_inb g k)) (fun _ => rfl)).squeeze S16x128 squeezes_S1x16x128_S16x128
abbrev offW (k : Fin k1_t2_loop.trips) : Memref sig .scVector .vmem S16 .i32 :=
  (ixV.slice (Rect.unit (s := S25x16) (k1_off7 k) S1x16.size (k1_off7_inb k)) (fun _ => rfl)).squeeze S16 squeezes_S1x16_S16
abbrev srcW : Memref sig .scVector .shared S18x128 .f32 :=
  shV.slice (Rect.unit (s := S18x128) ![0, 0] S18x128.size inb_S18x128_S18x128_0_0) (fun _ => rfl)
/-- The two slots of the row scratch. -/
abbrev slot0 : Memref sig .scVector .vmem S400x128 .f32 :=
  (bfV.slice (Rect.unit (s := S2x400x128) ![0, 0, 0] S1x400x128.size inb_S2x400x128_S1x400x128_0_0_0) (fun _ => rfl)).squeeze S400x128 squeezes_S1x400x128_S400x128
abbrev slot1 : Memref sig .scVector .vmem S400x128 .f32 :=
  (bfV.slice (Rect.unit (s := S2x400x128) ![1, 0, 0] S1x400x128.size inb_S2x400x128_S1x400x128_1_0_0) (fun _ => rfl)).squeeze S400x128 squeezes_S1x400x128_S400x128

/-- A chunk's number is below 25. -/
theorem t1_lt (g : Fin k1_t1_loop.trips) : g.val < 25 := Nat.lt_of_lt_of_le g.isLt k1_t1_abs.2.1
/-- A list step's number is below 25. -/
theorem t2_lt (k : Fin k1_t2_loop.trips) : k.val < 25 := Nat.lt_of_lt_of_le k.isLt k1_t2_abs.2.1
/-- A wait's number is below 25. -/
theorem t3_lt (k : Fin k1_t3_loop.trips) : k.val < 25 := Nat.lt_of_lt_of_le k.isLt k1_t3_abs.2.1
/-- There are 25 chunks. -/
theorem trips1 : k1_t1_loop.trips = 25 := by decide
/-- There are 25 list steps in a chunk. -/
theorem trips2 : k1_t2_loop.trips = 25 := by decide
/-- There are 25 waits in a chunk. -/
theorem trips3 : k1_t3_loop.trips = 25 := by decide

/-! ## Sets of coordinates -/

/-- Rows `lo` to `lo + n` of slot `p` of the row scratch. -/
def bufWin (p lo n : ℕ) : Finset S2x400x128.Idx := Finset.univ.filter fun z => (z 0).val = p ∧ lo ≤ (z 1).val ∧ (z 1).val < lo + n
/-- Row `k` of the lists. -/
def idxRow (k : ℕ) : Finset S25x16.Idx := Finset.univ.filter fun y => (y 0).val = k
/-- The lists from row `k` on. -/
def idxFrom (k : ℕ) : Finset S25x16.Idx := Finset.univ.filter fun y => k ≤ (y 0).val

/-- An index lies in rows `lo` to `lo + n` of slot `p` if its slot and row do. -/
theorem mem_bufWin {p lo n : ℕ} {z : S2x400x128.Idx} : z ∈ bufWin p lo n ↔ (z 0).val = p ∧ lo ≤ (z 1).val ∧ (z 1).val < lo + n := by
  unfold bufWin; rw [Finset.mem_filter]; exact ⟨fun h => h.2, fun h => ⟨Finset.mem_univ _, h⟩⟩
/-- An index lies in row `k` of the lists if its row is `k`. -/
theorem mem_idxRow {k : ℕ} {y : S25x16.Idx} : y ∈ idxRow k ↔ (y 0).val = k := by
  unfold idxRow; rw [Finset.mem_filter]; exact ⟨fun h => h.2, fun h => ⟨Finset.mem_univ _, h⟩⟩
/-- An index lies in the lists from row `k` on if its row is `k` or later. -/
theorem mem_idxFrom {k : ℕ} {y : S25x16.Idx} : y ∈ idxFrom k ↔ k ≤ (y 0).val := by
  unfold idxFrom; rw [Finset.mem_filter]; exact ⟨fun h => h.2, fun h => ⟨Finset.mem_univ _, h⟩⟩

/-- The lists from row 0 on are all of them. -/
theorem idxFrom_zero : idxFrom 0 = Finset.univ := by
  ext y; rw [mem_idxFrom]; exact ⟨fun _ => Finset.mem_univ _, fun _ => Nat.zero_le _⟩

/-- What a gather reads from is the whole table. -/
theorem set_srcW : srcW.view.set = Finset.univ := by
  show ((View.whole cc1_scratch3).slice _).set = _
  rw [View.set_slice_whole]
  ext y
  rw [Rect.mem_set_unit]
  exact ⟨fun _ => Finset.mem_univ _, fun _ a => by
    match a with
    | 0 => exact ⟨Nat.zero_le _, by have h : (y 0).val < 18 := (y 0).isLt; simp; exact h⟩
    | 1 => exact ⟨Nat.zero_le _, by have h : (y 1).val < 128 := (y 1).isLt; simp; exact h⟩⟩

/-- Window `k` of chunk `g` is sixteen rows of the chunk's slot. -/
theorem set_dstW (g : Fin k1_t1_loop.trips) (k : Fin k1_t2_loop.trips) : (dstW g k).view.set = bufWin (g.val % 2) (16 * k.val) 16 := by
  show (((View.whole cc1_scratch2).slice _).reshape _ _).set = _
  rw [View.set_reshape, View.set_slice_whole]
  ext z
  rw [Rect.mem_set_unit, mem_bufWin, k1_off6_eq]
  constructor
  · intro h
    have h0 := h 0; have h1 := h 1
    simp at h0 h1
    omega
  · rintro ⟨h0, h1, h2⟩ a
    match a with
    | 0 => simp; omega
    | 1 => simp; omega
    | 2 => have h : (z 2).val < 128 := (z 2).isLt; simp; exact h

/-- Slot 0 is its four hundred rows. -/
theorem set_slot0 : slot0.view.set = bufWin 0 0 400 := by
  show (((View.whole cc1_scratch2).slice _).reshape _ _).set = _
  rw [View.set_reshape, View.set_slice_whole]
  ext z
  rw [Rect.mem_set_unit, mem_bufWin]
  constructor
  · intro h
    have h0 := h 0; have h1 := h 1
    simp at h0 h1
    omega
  · rintro ⟨h0, h1, h2⟩ a
    match a with
    | 0 => simp; omega
    | 1 => simp; omega
    | 2 => have h : (z 2).val < 128 := (z 2).isLt; simp; exact h

/-- Slot 1 is its four hundred rows. -/
theorem set_slot1 : slot1.view.set = bufWin 1 0 400 := by
  show (((View.whole cc1_scratch2).slice _).reshape _ _).set = _
  rw [View.set_reshape, View.set_slice_whole]
  ext z
  rw [Rect.mem_set_unit, mem_bufWin]
  constructor
  · intro h
    have h0 := h 0; have h1 := h 1
    simp at h0 h1
    omega
  · rintro ⟨h0, h1, h2⟩ a
    match a with
    | 0 => simp; omega
    | 1 => simp; omega
    | 2 => have h : (z 2).val < 128 := (z 2).isLt; simp; exact h

/-- The list of gather `k` is row `k` of the lists. -/
theorem set_offW (k : Fin k1_t2_loop.trips) : (offW k).view.set = idxRow k.val := by
  show (((View.whole cc1_scratch1).slice _).reshape _ _).set = _
  rw [View.set_reshape, View.set_slice_whole]
  ext z
  rw [Rect.mem_set_unit, mem_idxRow, k1_off7_eq]
  constructor
  · intro h
    have h0 := h 0
    simp at h0
    omega
  · rintro h0 a
    match a with
    | 0 => simp; omega
    | 1 => have h : (z 1).val < 16 := (z 1).isLt; simp; exact h

/-! ## Where a slice places an index -/

/-- Where a window's index lies in the row scratch. -/
theorem emb_dstW (g : Fin k1_t1_loop.trips) (k : Fin k1_t2_loop.trips) (x : S16x128.Idx) :
    ((((dstW g k).view.emb x : S2x400x128.Idx) 0).val = g.val % 2) ∧ ((((dstW g k).view.emb x : S2x400x128.Idx) 1).val = 16 * k.val + (x 0).val)
      ∧ ((((dstW g k).view.emb x : S2x400x128.Idx) 2).val = (x 1).val) := by
  have h : (dstW g k).view.emb x = (Rect.unit (s := S2x400x128) (k1_off6 g k) S1x16x128.size (k1_off6_inb g k)).idx
      (Shape.reshapeEquiv squeezes_S1x16x128_S16x128.numel_eq x) := rfl
  have hx : Shape.reshapeEquiv squeezes_S1x16x128_S16x128.numel_eq x = ix3 (⟨0, Nat.one_pos⟩ : Fin 1) (x 0) (x 1) := by
    conv_lhs => rw [eq_ix2 x]
    exact Idealize.ShloMosaic.ValueIdx.reshapeEquiv_ix2_1ab _ _ _
  rw [h, hx]
  refine ⟨?_, ?_, ?_⟩
  · show k1_off6 g k 0 + 1 * 0 = _
    rw [k1_off6_eq]; rfl
  · show k1_off6 g k 1 + 1 * (x 0).val = _
    rw [k1_off6_eq, Nat.one_mul]; rfl
  · show k1_off6 g k 2 + 1 * (x 1).val = _
    rw [k1_off6_eq, Nat.one_mul]; exact Nat.zero_add _

/-- Where a list's index lies in the lists. -/
theorem emb_offW (k : Fin k1_t2_loop.trips) (x : S16.Idx) :
    ((((offW k).view.emb x : S25x16.Idx) 0).val = k.val) ∧ ((((offW k).view.emb x : S25x16.Idx) 1).val = (x 0).val) := by
  have h : (offW k).view.emb x = (Rect.unit (s := S25x16) (k1_off7 k) S1x16.size (k1_off7_inb k)).idx
      (Shape.reshapeEquiv squeezes_S1x16_S16.numel_eq x) := rfl
  have hx : Shape.reshapeEquiv squeezes_S1x16_S16.numel_eq x = Fin.cons ⟨0, Nat.one_pos⟩ x := Shape.reshapeEquiv_cons_one _ x
  rw [h, hx]
  refine ⟨?_, ?_⟩
  · show k1_off7 k 0 + 1 * 0 = _
    rw [k1_off7_eq]; rfl
  · show k1_off7 k 1 + 1 * (x 0).val = _
    rw [k1_off7_eq, Nat.one_mul]; exact Nat.zero_add _

/-- The table, as a gather addresses it, is addressed as it is. -/
theorem emb_srcW (x : S18x128.Idx) : (srcW.view.emb x : S18x128.Idx) = x := by
  have h : srcW.view.emb x = (Rect.unit (s := S18x128) ![0, 0] S18x128.size inb_S18x128_S18x128_0_0).idx x := rfl
  rw [h]; funext a; apply Fin.ext
  match a with
  | 0 => show 0 + 1 * (x 0).val = _; omega
  | 1 => show 0 + 1 * (x 1).val = _; omega

/-- Where an index of slot 0 lies in the row scratch. -/
theorem emb_slot0 (x : S400x128.Idx) :
    (((slot0.view.emb x : S2x400x128.Idx) 0).val = 0) ∧ (((slot0.view.emb x : S2x400x128.Idx) 1).val = (x 0).val) ∧ (((slot0.view.emb x : S2x400x128.Idx) 2).val = (x 1).val) := by
  have h : slot0.view.emb x = (Rect.unit (s := S2x400x128) ![0, 0, 0] S1x400x128.size inb_S2x400x128_S1x400x128_0_0_0).idx
      (Shape.reshapeEquiv squeezes_S1x400x128_S400x128.numel_eq x) := rfl
  have hx : Shape.reshapeEquiv squeezes_S1x400x128_S400x128.numel_eq x = ix3 (⟨0, Nat.one_pos⟩ : Fin 1) (x 0) (x 1) := by
    conv_lhs => rw [eq_ix2 x]
    exact Idealize.ShloMosaic.ValueIdx.reshapeEquiv_ix2_1ab _ _ _
  rw [h, hx]
  refine ⟨?_, ?_, ?_⟩
  · rfl
  · show 0 + 1 * (x 0).val = _; omega
  · show 0 + 1 * (x 1).val = _; omega

/-- Where an index of slot 1 lies in the row scratch. -/
theorem emb_slot1 (x : S400x128.Idx) :
    (((slot1.view.emb x : S2x400x128.Idx) 0).val = 1) ∧ (((slot1.view.emb x : S2x400x128.Idx) 1).val = (x 0).val) ∧ (((slot1.view.emb x : S2x400x128.Idx) 2).val = (x 1).val) := by
  have h : slot1.view.emb x = (Rect.unit (s := S2x400x128) ![1, 0, 0] S1x400x128.size inb_S2x400x128_S1x400x128_1_0_0).idx
      (Shape.reshapeEquiv squeezes_S1x400x128_S400x128.numel_eq x) := rfl
  have hx : Shape.reshapeEquiv squeezes_S1x400x128_S400x128.numel_eq x = ix3 (⟨0, Nat.one_pos⟩ : Fin 1) (x 0) (x 1) := by
    conv_lhs => rw [eq_ix2 x]
    exact Idealize.ShloMosaic.ValueIdx.reshapeEquiv_ix2_1ab _ _ _
  rw [h, hx]
  refine ⟨?_, ?_, ?_⟩
  · rfl
  · show 0 + 1 * (x 0).val = _; omega
  · show 0 + 1 * (x 1).val = _; omega

/-! ## Contents -/

section Contents

variable (C : S18x128.Idx → Elt F .f32) (A : S640000.Idx → BitVec 32) (b : ℕ)

/-- A tile's attributes as it holds them: its ten thousand first ones, then its ten thousand second ones. -/
def attrC : S20000.Idx → BitVec 32 := fun x => if (x 0).val < 10000 then attrAt A (b + (x 0).val) else attrAt A (320000 + b + ((x 0).val - 10000))
/-- The lists of chunk `g`: the table rows its edges take. -/
def idxC (g : ℕ) : S25x16.Idx → BitVec 32 := fun y => word A (b + 400 * g + 16 * (y 0).val + (y 1).val)
/-- The rows of chunk `g`, gathered. -/
def bufC (g : ℕ) : S2x400x128.Idx → Elt F .f32 := fun z => C (cix (word A (b + 400 * g + (z 1).val)).toNat (z 2))

variable {A}

/-- Every attribute is below three. -/
theorem attrAt_lt (hA : ∀ x, (A x).toNat < 3) (n : ℕ) : (attrAt A n).toNat < 3 := by
  unfold attrAt; split
  · exact hA _
  · decide

/-- Every table row an edge takes is one of the eighteen. -/
theorem word_lt (hA : ∀ x, (A x).toNat < 3) (e : ℕ) : (word A e).toNat < 18 := by
  have h1 := attrAt_lt hA e
  have h2 := attrAt_lt hA (320000 + e)
  unfold word
  rw [BitVec.toNat_add, BitVec.toNat_mul, show (3#32).toNat = 3 from rfl]
  have h3 : (attrAt A e).toNat * 3 % 2 ^ 32 = (attrAt A e).toNat * 3 := Nat.mod_eq_of_lt (by omega)
  rw [h3]
  exact Nat.lt_of_le_of_lt (Nat.mod_le _ _) (by omega)

end Contents

/-! ## The words of one step of the list loop -/

/-- The first load's words: the edges of list step `k`, counted from the tile's first. -/
theorem pay1_toNat (g : Fin k1_t1_loop.trips) (k : Fin k1_t2_loop.trips) (x : S16.Idx) :
    (k1_pay1 g k x).toNat = 400 * g.val + 16 * k.val + (x 0).val := by
  have hg := t1_lt g; have hk := t2_lt k
  have hx : (x 0).val < 16 := (x 0).isLt
  have h : k1_pay1 g k x = ((0#32 + BitVec.ofNat 32 g.val * 1#32) * 400#32 + (0#32 + BitVec.ofNat 32 k.val * 1#32) * 16#32) + BitVec.ofNat 32 (0 * S16.size 0 + (x 0).val) := rfl
  rw [h]
  simp [BitVec.toNat_add, BitVec.toNat_mul]
  omega

/-- The second load's words: the same, ten thousand further on. -/
theorem pay2_toNat (g : Fin k1_t1_loop.trips) (k : Fin k1_t2_loop.trips) (x : S16.Idx) :
    (k1_pay2 (k1_pay1 g k) x).toNat = 10000 + (400 * g.val + 16 * k.val + (x 0).val) := by
  have hg := t1_lt g; have hk := t2_lt k
  have hx : (x 0).val < 16 := (x 0).isLt
  have h : k1_pay2 (k1_pay1 g k) x = k1_pay1 g k x + 10000#32 := rfl
  rw [h, BitVec.toNat_add, pay1_toNat]
  simp
  omega

/-- The first load stays inside the scratch. -/
theorem chk1_ok (g : Fin k1_t1_loop.trips) (k : Fin k1_t2_loop.trips) : k1_chk1 (k1_pay1 g k) := by
  intro a x
  have hg := t1_lt g; have hk := t2_lt k
  have hx : (x 0).val < 16 := (x 0).isLt
  match a with
  | 0 =>
    show (k1_pay1 g k x).toNat < 20000
    rw [pay1_toNat]; omega

/-- The second load stays inside the scratch. -/
theorem chk2_ok (g : Fin k1_t1_loop.trips) (k : Fin k1_t2_loop.trips) : k1_chk2 (k1_pay2 (k1_pay1 g k)) := by
  intro a x
  have hg := t1_lt g; have hk := t2_lt k
  have hx : (x 0).val < 16 := (x 0).isLt
  match a with
  | 0 =>
    show (k1_pay2 (k1_pay1 g k) x).toNat < 20000
    rw [pay2_toNat]; omega

end Cert.Proof.Edge

end
-- ==== Proof.Fire.lean ====
/-
  One step of the list loop: sixteen edges' table rows computed and stored as a row of the lists, and the gather of those
  rows issued into the slot. The gathers of a chunk share one semaphore, so they are one batch of its four hundred rows.
-/
module

public import proofs.«01_k».proof.Proof.Views

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3 eq_ix1 eq_ix2)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch (rowBack rowsBack_join wp_gatherBatch)

variable {F : FTy → Type}

local notation "𝕄" => MT nD τ sig (HIx 1) (Elt F) ℕ UU ℕ

section Fire

variable (d : Dev nD) (L : grid1.Coords)

abbrev cV : Fin τ.nSC := (L 0).castLE hcore1
abbrev jV : Fin τ.nSub := (L 1).castLE hsub1
/-- The tile running the body at grid coordinates `L`. -/
abbrev th : Thread nD τ := V d (cV L) (jV L)

abbrev tLoc : Loc nD τ sig := (atV).view.loc (th d L)
abbrev iLoc : Loc nD τ sig := (ixV).view.loc (th d L)
abbrev bLoc : Loc nD τ sig := (bfV).view.loc (th d L)
abbrev hLoc : Loc nD τ sig := (shV).view.loc (th d L)

variable (C : S18x128.Idx → Elt F .f32) (A : S640000.Idx → BitVec 32) (b : ℕ)

/-- The tile's attributes, in its scratch. -/
abbrev tPts : sProp 𝕄 := tLoc d L ↦{fullShare} (attrC A b : Buf (Elt F) (tLoc d L))
abbrev iPts (I : Finset S25x16.Idx) (f : Buf (Elt F) (iLoc d L)) : sProp 𝕄 := iLoc d L ↦[I]{fullShare} f
abbrev bPts (I : Finset S2x400x128.Idx) (f : Buf (Elt F) (bLoc d L)) : sProp 𝕄 := bLoc d L ↦[I]{fullShare} f
abbrev hPts (q : PosShare TreeShare) : sProp 𝕄 := hLoc d L ↦{q} (C : Buf (Elt F) (hLoc d L))

/-- The twenty-five parts of a tile's share of the shared table, one for each gather of a chunk. -/
abbrev qk (q : PosShare TreeShare) (k : ℕ) (hk : k < 25) : PosShare TreeShare := pieceOf q 25 (by decide) ⟨k, hk⟩

/-! ## The batch of a chunk's rows -/

/-- A gather has a row. -/
theorem gsize_pos : 0 < S16x128.size gathers_S18x128_S16x128.axis' := by decide
/-- A gather has sixteen rows. -/
theorem gsize_eq : S16x128.size gathers_S18x128_S16x128.axis' = 16 := rfl

/-- The list step a row of the chunk belongs to. -/
def kOf (t : Fin 400) : Fin k1_t2_loop.trips := ⟨t.val / 16, by rw [trips2]; have := t.isLt; omega⟩
/-- Its row in that step's window. -/
def rOf (t : Fin 400) : Fin (S16x128.size gathers_S18x128_S16x128.axis') := ⟨t.val % 16, Nat.mod_lt _ gsize_pos⟩

/-- Row `i` of list step `k` of chunk `g`, gathered. -/
def rowDk (g : Fin k1_t1_loop.trips) (q : PosShare TreeShare) (k : Fin k1_t2_loop.trips) (i : Fin (S16x128.size gathers_S18x128_S16x128.axis')) : sProp 𝕄 :=
  rowBack (F := F) (th d L) srcW (dstW g k) gathers_S18x128_S16x128 (offW k) rfl gsize_pos (qk q k.val (t2_lt k))
    (C : Buf (Elt F) ((srcW).view.loc (th d L))) (bufC C A b g.val : Buf (Elt F) ((dstW g k).view.loc (th d L))) (idxC A b g.val : Buf (Elt F) ((offW k).view.loc (th d L))) i

/-- Row `t` of chunk `g`, gathered. -/
def rowD (g : Fin k1_t1_loop.trips) (q : PosShare TreeShare) (t : Fin 400) : sProp 𝕄 := rowDk d L C A b g q (kOf t) (rOf t)

instance rowD_storable (g : Fin k1_t1_loop.trips) (q : PosShare TreeShare) (t : Fin 400) : Storable (upEmb : UEmb _ 𝕄) (rowD d L C A b g q t) := by
  unfold rowD rowDk; exact GatherBatch.rowBack_storable _ _ _ _ _ _ _ _ _ _ _ _

/-- The units a row credits. -/
abbrev NR : ℕ := 4096

/-- One gathered row credits the units of a row. -/
theorem credit_row (g : Fin k1_t1_loop.trips) (k : Fin k1_t2_loop.trips) (i : Fin (S16x128.size gathers_S18x128_S16x128.axis')) :
    ((dstW g k).slice (S16x128.rowRect gathers_S18x128_S16x128.axis' i) (S16x128.stride_rowRect gathers_S18x128_S16x128.axis' i)).view.dmaCredit = NR := by
  show (S16x128.rowShape gathers_S18x128_S16x128.axis').numel * 32 = 4096
  decide

/-- A window credits the units of sixteen rows. -/
theorem credit_window (g : Fin k1_t1_loop.trips) (k : Fin k1_t2_loop.trips) : (dstW g k).view.dmaCredit = 16 * NR := by
  show S16x128.numel * 32 = 16 * 4096
  decide

/-- The batch of chunk `g`'s rows. -/
abbrev fireBatch (g : Fin k1_t1_loop.trips) (q : PosShare TreeShare) (j u : ℕ) : sProp 𝕄 :=
  Transfers.Batch EC (th d L) (.dma cc1_scratch4.sem) none NR (rowD d L C A b g q) j u

/-! ## The row of the lists one step stores -/

variable {A}

/-- A word of the scratch's first half is the first attribute of its edge. -/
theorem attrC_lo (x : S20000.Idx) (n : ℕ) (hx : (x 0).val = n) (hn : n < 10000) : attrC A b x = attrAt A (b + n) := by
  subst hx; unfold attrC; rw [if_pos hn]

/-- A word of the scratch's second half is the second attribute of its edge. -/
theorem attrC_hi (x : S20000.Idx) (n : ℕ) (hx : (x 0).val = 10000 + n) : attrC A b x = attrAt A (320000 + b + n) := by
  unfold attrC; rw [if_neg (by omega), hx, Nat.add_sub_cancel_left]

/-- The first load of list step `k` reads the first attributes of its sixteen edges. -/
theorem attrC_fst (g : Fin k1_t1_loop.trips) (k : Fin k1_t2_loop.trips) (x : S16.Idx)
    (h : ∀ a x, ((![k1_pay1 g k] : Fin 1 → IVec S16 32) a x).toNat < S20000.size a) :
    attrC A b (idxAt (s := S20000) ![k1_pay1 g k] h x) = attrAt A (b + (400 * g.val + 16 * k.val + (x 0).val)) := by
  have hg := t1_lt g; have hk := t2_lt k
  have hx : (x 0).val < 16 := (x 0).isLt
  exact attrC_lo b _ _ (pay1_toNat g k x) (by omega)

/-- The second load of list step `k` reads the second attributes of its sixteen edges. -/
theorem attrC_snd (g : Fin k1_t1_loop.trips) (k : Fin k1_t2_loop.trips) (x : S16.Idx)
    (h : ∀ a x, ((![k1_pay2 (k1_pay1 g k)] : Fin 1 → IVec S16 32) a x).toNat < S20000.size a) :
    attrC A b (idxAt (s := S20000) ![k1_pay2 (k1_pay1 g k)] h x) = attrAt A (320000 + b + (400 * g.val + 16 * k.val + (x 0).val)) :=
  attrC_hi b _ _ (pay2_toNat g k x)

/-- What one step stores, written over the lists, is its row of the lists. -/
theorem stored_eq (g : Fin k1_t1_loop.trips) (k : Fin k1_t2_loop.trips) (f : Buf (Elt F) (iLoc d L))
    (h1 : ∀ a x, ((![k1_pay1 g k] : Fin 1 → IVec S16 32) a x).toNat < S20000.size a)
    (h2 : ∀ a x, ((![k1_pay2 (k1_pay1 g k)] : Fin 1 → IVec S16 32) a x).toNat < S20000.size a) (y : S25x16.Idx) (hy : y ∈ idxRow k.val) :
    (ixV.access (Rect.unit (s := S25x16) (k1_off5 k) S1x16.size (k1_off5_inb k))).write (Elt F) f
      (shapeCast S1x16 (k1_pay3 (loadIdx (F := F) (s := S20000) (e := .i32) (attrC A b) ![k1_pay1 g k] h1)
        (loadIdx (F := F) (s := S20000) (e := .i32) (attrC A b) ![k1_pay2 (k1_pay1 g k)] h2)) shapeCasts_S16_S1x16) Finset.univ y
      = idxC A b g.val y := by
  rw [mem_idxRow] at hy
  let x : S1x16.Idx := ix2 (⟨0, Nat.one_pos⟩ : Fin 1) (y 1)
  have hxy : y = (ixV.access (Rect.unit (s := S25x16) (k1_off5 k) S1x16.size (k1_off5_inb k))).emb x := by
    have h : (ixV.access (Rect.unit (s := S25x16) (k1_off5 k) S1x16.size (k1_off5_inb k))).emb x
      = (Rect.unit (s := S25x16) (k1_off5 k) S1x16.size (k1_off5_inb k)).idx x := rfl
    rw [h]; funext a; apply Fin.ext
    match a with
    | 0 => show (y 0).val = k1_off5 k 0 + 1 * 0; rw [k1_off5_eq]; exact hy
    | 1 => show (y 1).val = k1_off5 k 1 + 1 * (y 1).val; rw [k1_off5_eq, Nat.one_mul]; exact (Nat.zero_add _).symm
  conv_lhs => rw [hxy]
  rw [View.write_emb_of_mem _ _ (Finset.mem_univ x), cast_eq]
  refine (Idealize.ShloMosaic.ValueIdx.shapeCast_a_1a_apply _ shapeCasts_S16_S1x16 (⟨0, Nat.one_pos⟩ : Fin 1) (y 1)).trans ?_
  show (attrC A b (idxAt (s := S20000) ![k1_pay1 g k] h1 (ix1 (y 1))) : BitVec 32) * 3#32
      + attrC A b (idxAt (s := S20000) ![k1_pay2 (k1_pay1 g k)] h2 (ix1 (y 1))) = _
  rw [attrC_fst b g k, attrC_snd b g k]
  unfold idxC word
  rw [hy]
  rw [show b + (400 * g.val + 16 * k.val + ((ix1 (y 1) : S16.Idx) 0).val) = b + 400 * g.val + 16 * k.val + (y 1).val by
      show b + (400 * g.val + 16 * k.val + (y 1).val) = _; omega,
    show 320000 + b + (400 * g.val + 16 * k.val + ((ix1 (y 1) : S16.Idx) 0).val) = 320000 + (b + 400 * g.val + 16 * k.val + (y 1).val) by
      show 320000 + b + (400 * g.val + 16 * k.val + (y 1).val) = _; omega]

/-! ## What a gather reads -/

/-- Entry `j` of a list, counted in row-major order, is at index `j`. -/
theorem entry_val (j : Fin 16) (h : 16 = S16.numel) : ((S16.rowMajor.symm (j.cast h)) 0).val = j.val := by
  have h1 := Shape.rowMajor_val_one (S16.rowMajor.symm (j.cast h))
  rw [Equiv.apply_symm_apply] at h1
  exact h1.symm

/-- Row `k` of the lists holds the table rows that the sixteen edges of step `k` take. -/
theorem offW_read (g : ℕ) (k : Fin k1_t2_loop.trips) (x : S16.Idx) :
    (offW k).view.read (Elt F) (idxC A b g : Buf (Elt F) ((offW k).view.loc (th d L))) x = word A (b + 400 * g + 16 * k.val + (x 0).val) := by
  rw [View.read_apply, cast_eq]
  show word A (b + 400 * g + 16 * (((offW k).view.emb x : S25x16.Idx) 0).val + (((offW k).view.emb x : S25x16.Idx) 1).val) = _
  rw [(emb_offW k x).1, (emb_offW k x).2]

/-- Those are rows of the table, the attributes being below three. -/
theorem offW_in (hA : ∀ x, (A x).toNat < 3) (g : ℕ) (k : Fin k1_t2_loop.trips) (x : S16.Idx) :
    ((offW k).view.read (Elt F) (idxC A b g : Buf (Elt F) ((offW k).view.loc (th d L))) x).toNat < S18x128.size gathers_S18x128_S16x128.axis := by
  rw [offW_read]; exact word_lt hA _

/-- Window `k` of chunk `g`'s rows is what the gather through row `k` of the lists reads. -/
theorem gather_eq (hA : ∀ x, (A x).toNat < 3) (g : Fin k1_t1_loop.trips) (k : Fin k1_t2_loop.trips) (x : S16x128.Idx) :
    (dstW g k).view.read (Elt F) (bufC C A b g.val : Buf (Elt F) ((dstW g k).view.loc (th d L))) x
      = SparseCore.gatherPayload gathers_S18x128_S16x128 ((srcW).view.read (Elt F) (C : Buf (Elt F) ((srcW).view.loc (th d L))))
          (SparseCore.rows ((offW k).view.read (Elt F) (idxC A b g.val : Buf (Elt F) ((offW k).view.loc (th d L)))) rfl (offW_in (F := F) b hA g.val k)) x := by
  rw [View.read_apply, cast_eq]
  unfold SparseCore.gatherPayload
  rw [View.read_apply, cast_eq]
  show C (cix (word A (b + 400 * g.val + (((dstW g k).view.emb x : S2x400x128.Idx) 1).val)).toNat (((dstW g k).view.emb x : S2x400x128.Idx) 2)) = C _
  congr 1
  rw [emb_srcW, (emb_dstW g k x).2.1]
  funext a; apply Fin.ext
  match a with
  | 0 =>
    refine Eq.trans ?_ (congrArg Fin.val (Shape.Gathers.idx_axis gathers_S18x128_S16x128 _ x)).symm
    unfold SparseCore.rows
    dsimp only
    rw [offW_read]
    refine (Nat.mod_eq_of_lt (word_lt hA _)).trans ?_
    have he : ((S16.rowMajor.symm ((x 0 : Fin 16).cast (rfl : 16 = S16.numel))) 0).val = (x 0).val := entry_val _ _
    refine congrArg (fun n => (word A n).toNat) ?_
    refine Eq.trans ?_ (congrArg (fun n => b + 400 * g.val + 16 * k.val + n) he.symm)
    show b + 400 * g.val + (16 * k.val + (x 0).val) = b + 400 * g.val + 16 * k.val + (x 0).val
    omega
  | 1 =>
    refine Eq.trans ?_ (Shape.Gathers.idx_of_ne gathers_S18x128_S16x128 _ x 1 (by decide)).symm
    exact (emb_dstW g k x).2.2

end Fire

end Cert.Proof.Edge

end
-- ==== Proof.FireStep.lean ====
/-
  The list loop's step and the drain loop's step, and the two loops together: one chunk's gathers, from the tile's
  attributes and its share of the table to the chunk's rows in the slot.
-/
module

public import proofs.«01_k».proof.Proof.Fire

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch (rowBack rowsBack_join wp_gatherBatch)

variable {F : FTy → Type}

local notation "𝕄" => MT nD τ sig (HIx 1) (Elt F) ℕ UU ℕ

/-! ## Cutting the lists and the slot -/

/-- The lists from row `k` on are row `k` and the lists from row `k + 1` on. -/
theorem idxFrom_cut (k : ℕ) : idxFrom k = idxRow k ∪ idxFrom (k + 1) := by
  ext y; rw [Finset.mem_union, mem_idxFrom, mem_idxFrom, mem_idxRow]; omega
/-- These two have no index in common. -/
theorem idxFrom_dis (k : ℕ) : Disjoint (idxRow k) (idxFrom (k + 1)) :=
  Finset.disjoint_left.mpr fun y h h' => by rw [mem_idxRow] at h; rw [mem_idxFrom] at h'; omega
/-- Rows `lo` to `lo + m` of a slot are the first `n` of them and the rest. -/
theorem bufWin_cut (p lo n : ℕ) (m : ℕ) (h : n ≤ m) : bufWin p lo m = bufWin p lo n ∪ bufWin p (lo + n) (m - n) := by
  ext z; rw [Finset.mem_union, mem_bufWin, mem_bufWin, mem_bufWin]; omega
/-- These two have no index in common. -/
theorem bufWin_dis (p lo n m : ℕ) : Disjoint (bufWin p lo n) (bufWin p (lo + n) m) :=
  Finset.disjoint_left.mpr fun z h h' => by rw [mem_bufWin] at h h'; omega

section Fire

variable [FloatOps F] (d : Dev nD) (L : grid1.Coords)
variable (C : S18x128.Idx → Elt F .f32) {A : S640000.Idx → BitVec 32} (b : ℕ)

/-- The lists from row `k` on, held, are row `k` held and the rest held. -/
theorem iPts_cut (k : ℕ) (f : Buf (Elt F) (iLoc d L)) : (iPts d L (idxFrom k) f : sProp 𝕄) = iprop(iPts d L (idxRow k) f ∗ iPts d L (idxFrom (k + 1)) f) := by
  unfold iPts
  rw [idxFrom_cut k]
  exact pts_cut (ℓ := iLoc d L) fullShare f (idxFrom_dis k)

/-- Rows of a slot, held, are the first `n` of them held and the rest held. -/
theorem bPts_cut (p lo n m : ℕ) (h : n ≤ m) (f : Buf (Elt F) (bLoc d L)) :
    (bPts d L (bufWin p lo m) f : sProp 𝕄) = iprop(bPts d L (bufWin p lo n) f ∗ bPts d L (bufWin p (lo + n) (m - n)) f) := by
  unfold bPts
  rw [bufWin_cut p lo n m h]
  exact pts_cut (ℓ := bLoc d L) fullShare f (bufWin_dis p lo n (m - n))

/-- Row `i` of list step `k` is row `16 k + i` of the chunk. -/
theorem rowDk_eq (g : Fin k1_t1_loop.trips) (q : PosShare TreeShare) (k : Fin k1_t2_loop.trips) (i : Fin (S16x128.size gathers_S18x128_S16x128.axis'))
    (h : 16 * k.val + i.val < 400) : rowDk d L C A b g q k i = rowD d L C A b g q ⟨16 * k.val + i.val, h⟩ := by
  have hi : i.val < 16 := i.isLt
  have hk : kOf ⟨16 * k.val + i.val, h⟩ = k := Fin.ext (show (16 * k.val + i.val) / 16 = k.val by omega)
  have hr : rOf ⟨16 * k.val + i.val, h⟩ = i := Fin.ext (show (16 * k.val + i.val) % 16 = i.val by omega)
  unfold rowD
  rw [hk, hr]

set_option maxHeartbeats 400000 in
/-- One step of the list loop. -/
theorem fire_step (hA : ∀ x, (A x).toNat < 3) (g : Fin k1_t1_loop.trips) (q : PosShare TreeShare) (k : Fin k1_t2_loop.trips) (Q : Unit → sProp 𝕄)
    (f : Buf (Elt F) (iLoc d L)) (fb : Buf (Elt F) (bLoc d L)) :
    iprop(tPts d L A b ∗ iPts d L (idxFrom k.val) f ∗ bPts d L (bufWin (g.val % 2) (16 * k.val) (400 - 16 * k.val)) fb
        ∗ hPts d L C (qk q k.val (t2_lt k)) ∗ fireBatch d L C A b g q (16 * k.val) 0
        ∗ (∀ f', tPts d L A b ∗ iPts d L (idxFrom (k.val + 1)) f' ∗ bPts d L (bufWin (g.val % 2) (16 * (k.val + 1)) (400 - 16 * (k.val + 1))) fb
            ∗ fireBatch d L C A b g q (16 * (k.val + 1)) 0 -∗ Q ⟨⟩))
      ⊢ wp frame (wpE (defs₀ (F := F)) 𝒱₀ (th d L) none) Set.univ
          (k1_t2_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2 g k ⟨⟩) Q := by
  have hk := t2_lt k
  unfold k1_t2_body
  simp only [Prog.lift, Prog.bind_op, Prog.bind_ret, Prog.pure_eq_ret]
  rw [wp_assume_of _ _ _ _ (chk1_ok g k)]
  iintro ⟨Ht, Hi, Hb, Hh, HB, HQ⟩
  iapply (SparseCore.wp_vectorLoadIdx 𝒱₀ (th d L) none Set.univ (base := atV) (S := Finset.univ) (q := fullShare) (f := (attrC A b : Buf (Elt F) (tLoc d L))) (Finset.subset_univ _)) $$ [Ht]
  · iexact Ht
  iintro Ht
  rw [wp_assume_of _ _ _ _ (chk2_ok g k)]
  iapply (SparseCore.wp_vectorLoadIdx 𝒱₀ (th d L) none Set.univ (base := atV) (S := Finset.univ) (q := fullShare) (f := (attrC A b : Buf (Elt F) (tLoc d L))) (Finset.subset_univ _)) $$ [Ht]
  · iexact Ht
  iintro Ht
  have hrd : (atV.access (Rect.whole S20000)).read (Elt F) (attrC A b : Buf (Elt F) (tLoc d L)) = attrC A b := Memref.read_access_whole (Elt F) cc1_scratch0 _
  have hrow : (ixV.access (Rect.unit (s := S25x16) (k1_off5 k) S1x16.size (k1_off5_inb k))).set = idxRow k.val := by
    show ((View.whole cc1_scratch1).slice _).set = _
    rw [View.set_slice_whole]
    ext z
    rw [Rect.mem_set_unit, mem_idxRow, k1_off5_eq]
    constructor
    · intro h
      have h0 := h 0
      simp at h0
      omega
    · rintro h0 a
      match a with
      | 0 => simp; omega
      | 1 => have h : (z 1).val < 16 := (z 1).isLt; simp; exact h
  have hsub : idxRow k.val ⊆ idxFrom k.val := by rw [idxFrom_cut]; exact Finset.subset_union_left
  iapply (wp_load_rect 𝒱₀ (th d L) none Set.univ (m := ixV) (r := Rect.unit (s := S25x16) (k1_off5 k) S1x16.size (k1_off5_inb k)) (S := idxFrom k.val) (f := f) (by
    rw [hrow]; exact hsub)) $$ [Hi]
  · iexact Hi
  iintro Hi
  iapply (wp_store 𝒱₀ (th d L) none Set.univ (m := ixV) (r := Rect.unit (s := S25x16) (k1_off5 k) S1x16.size (k1_off5_inb k)) (Mk := Finset.univ) (S := idxFrom k.val) (f := f) (by
    rw [View.setOn_univ, hrow]; exact hsub)) $$ [Hi]
  · iexact Hi
  iintro Hi
  generalize hw : (View.write (Elt F) (ixV.access (Rect.unit (s := S25x16) (k1_off5 k) S1x16.size (k1_off5_inb k))) f _ Finset.univ) = fw
  have hst : ∀ y ∈ idxRow k.val, fw y = idxC A b g.val y := by
    intro y hy
    rw [← hw]
    rw [hrd]
    exact stored_eq (F := F) d L b g k f (chk1_ok g k) (chk2_ok g k) y hy
  ihave Hi := (Entails.of_eq (show ((ixV.access (Rect.unit (s := S25x16) (k1_off5 k) S1x16.size (k1_off5_inb k))).loc (th d L) ↦[idxFrom k.val]{fullShare} fw : sProp 𝕄)
      = iprop(iPts d L (idxRow k.val) (idxC A b g.val) ∗ iPts d L (idxFrom (k.val + 1)) fw) by
    rw [show iPts d L (idxRow k.val) (idxC A b g.val) = (iPts d L (idxRow k.val) fw : sProp 𝕄) from (pointsTo_congr hst).symm]
    exact iPts_cut d L k.val fw)) $$ Hi
  icases Hi with ⟨Hrow, Hi⟩
  ihave Hb := (Entails.of_eq (show bPts d L (bufWin (g.val % 2) (16 * k.val) (400 - 16 * k.val)) fb
      = iprop(bPts d L (bufWin (g.val % 2) (16 * k.val) 16) fb ∗ bPts d L (bufWin (g.val % 2) (16 * (k.val + 1)) (400 - 16 * (k.val + 1))) fb) by
    rw [bPts_cut d L (g.val % 2) (16 * k.val) 16 (400 - 16 * k.val) (by omega), show 16 * (k.val + 1) = 16 * k.val + 16 by omega,
      show 400 - (16 * k.val + 16) = 400 - 16 * k.val - 16 by omega])) $$ Hb
  icases Hb with ⟨Hwin, Hb⟩
  iapply (wp_gatherBatch EC 𝒱₀ (th d L) none (src := srcW) (dst := dstW g k) (hg := gathers_S18x128_S16x128) (offs := offW k) (hn := rfl)
      (fs := (C : Buf (Elt F) ((srcW).view.loc (th d L)))) (fd := fb) (g := (bufC C A b g.val : Buf (Elt F) ((dstW g k).view.loc (th d L))))
      (fo := (idxC A b g.val : Buf (Elt F) ((offW k).view.loc (th d L)))) (q := qk q k.val (t2_lt k)) (D := rowD d L C A b g q) (j := 16 * k.val) (u := 0)
      none NR (credit_row g k) gsize_pos (offW_in (F := F) b hA g.val k) (gather_eq C b hA g k) (by rw [gsize_eq]; omega) (Nat.zero_le _)
      (fun i => by rw [← rowDk_eq d L C b g q k i]; exact Entails.rfl)) $$ [Hh Hwin Hrow HB]
  · isplitl [Hh]; · rw [set_srcW]; iexact Hh
    isplitl [Hwin]; · rw [set_dstW]; iexact Hwin
    isplitl [Hrow]; · rw [set_offW]; iexact Hrow
    iexact HB
  iintro HB
  rw [wp_ret]; imodintro
  iapply HQ $$ %fw
  isplitl [Ht]; · iexact Ht
  isplitl [Hi]; · iexact Hi
  isplitl [Hb]; · iexact Hb
  iexact HB

end Fire

end Cert.Proof.Edge

end
-- ==== Proof.Chunk.lean ====
/-
  The two inner loops of a chunk: the list loop issues twenty-five gathers, the drain loop waits for them all, and every
  row of the chunk is then in the slot.
-/
module

public import proofs.«01_k».proof.Proof.FireStep

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch (rowBack rowsBack_join wp_gatherBatch)

variable {F : FTy → Type}

local notation "𝕄" => MT nD τ sig (HIx 1) (Elt F) ℕ UU ℕ

section Chunk

variable [FloatOps F] (d : Dev nD) (L : grid1.Coords)
variable (C : S18x128.Idx → Elt F .f32) {A : S640000.Idx → BitVec 32} (b : ℕ)

/-- The two inner loops, as the program's text has them. -/
abbrev fireLoop (g : Fin k1_t1_loop.trips) : Prog (TpuEff nD τ sig (Elt F) Λ₀ (th d L).2) Unit :=
  Scf.Loop.for k1_t2_loop k1_t2_ok ⟨⟩ (k1_t2_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2 g)
abbrev drainLoop (g : Fin k1_t1_loop.trips) : Prog (TpuEff nD τ sig (Elt F) Λ₀ (th d L).2) Unit :=
  Scf.Loop.for k1_t3_loop k1_t3_ok ⟨⟩ (k1_t3_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2 g)

/-- The list loop: every gather of the chunk issued. -/
theorem fire_loop (hA : ∀ x, (A x).toNat < 3) (g : Fin k1_t1_loop.trips) (q : PosShare TreeShare) {α : Type} (kk : Unit → Prog (TpuEff nD τ sig (Elt F) Λ₀ (th d L).2) α) (Q : α → sProp 𝕄)
    (f : Buf (Elt F) (iLoc d L)) (fb : Buf (Elt F) (bLoc d L)) :
    iprop(tPts d L A b ∗ iPts d L Finset.univ f ∗ bPts d L (bufWin (g.val % 2) 0 400) fb ∗ hPts d L C q ∗ fireBatch d L C A b g q 0 0
        ∗ (tPts d L A b ∗ fireBatch d L C A b g q 400 0 -∗ wp frame (wpE (defs₀ (F := F)) 𝒱₀ (th d L) none) Set.univ (kk ⟨⟩) Q))
      ⊢ wp frame (wpE (defs₀ (F := F)) 𝒱₀ (th d L) none) Set.univ (fireLoop d L g >>= kk) Q := by
  iintro ⟨Ht, Hi, Hb, Hh, HB, HK⟩
  iapply (Scf.wp_for_bind _ _ _ _ _ _ k1_t2_ok ⟨⟩ _ (fun k (_ : Unit) => iprop(tPts d L A b ∗ (∃ f', iPts d L (idxFrom k) f')
      ∗ bPts d L (bufWin (g.val % 2) (16 * k) (400 - 16 * k)) fb
      ∗ bigSep (Transfers.pending k) (fun j : Fin 25 => hPts d L C (pieceOf q 25 (by decide) j)) ∗ fireBatch d L C A b g q (16 * k) 0)) ?hbody) $$ [Ht Hi Hb Hh HB]
  case hbody =>
    intro k acc
    have hk := t2_lt k
    rw [Transfers.bigSep_pending_step (fun j : Fin 25 => (hPts d L C (pieceOf q 25 (by decide) j) : sProp 𝕄)) k.val hk]
    iintro ⟨Ht, ⟨%f', Hi⟩, Hb, ⟨Hh, Hhs⟩, HB⟩
    iapply (fire_step d L C b hA g q k _ f' fb)
    isplitl [Ht]; · iexact Ht
    isplitl [Hi]; · iexact Hi
    isplitl [Hb]; · iexact Hb
    isplitl [Hh]; · iexact Hh
    isplitl [HB]; · iexact HB
    iintro %f'' ⟨Ht, Hi, Hb, HB⟩
    isplitl [Ht]; · iexact Ht
    isplitl [Hi]; · iexists f''; iexact Hi
    isplitl [Hb]; · iexact Hb
    isplitl [Hhs]; · iexact Hhs
    iexact HB
  · isplitl [Ht]; · iexact Ht
    isplitl [Hi]; · iexists f; rw [idxFrom_zero]; iexact Hi
    isplitl [Hb]; · iexact Hb
    isplitl [Hh]
    · rw [Transfers.pending_zero, ← pointsTo_piecesOf]; iexact Hh
    iexact HB
  iintro %acc H
  rw [show Scf.trips k1_t2_loop.lb k1_t2_loop.ub k1_t2_loop.st = 25 from trips2]
  icases H with ⟨Ht, -, -, -, HB⟩
  iapply HK
  isplitl [Ht]; · iexact Ht
  iexact HB

/-- The drain loop: every row's units consumed. -/
theorem drain_loop (g : Fin k1_t1_loop.trips) (q : PosShare TreeShare) (O : CellTallies nD τ sig (HIx 1)) (W : Waits sig (HIx 1)) (hO : ∀ g, O g none = 0)
    {α : Type} (kk : Unit → Prog (TpuEff nD τ sig (Elt F) Λ₀ (th d L).2) α) (Q : α → sProp 𝕄) :
    iprop(levAts (K (F := F)).L (K (F := F)).lev ∗ fireBatch d L C A b g q 400 0 ∗ owes (th d L) O W
        ∗ (∀ W', ⌜∀ p ∈ W', p ∈ W ∨ p.2 = none⌝ -∗ fireBatch d L C A b g q 400 (NR * 400) ∗ owes (th d L) O W'
            -∗ wp frame (wpE (defs₀ (F := F)) 𝒱₀ (th d L) none) Set.univ (kk ⟨⟩) Q))
      ⊢ wp frame (wpE (defs₀ (F := F)) 𝒱₀ (th d L) none) Set.univ (drainLoop d L g >>= kk) Q := by
  iintro ⟨#Hlv, HB, HO, HK⟩
  iapply (Scf.wp_for_bind _ _ _ _ _ _ k1_t3_ok ⟨⟩ _ (fun k (_ : Unit) => iprop(levAts (K (F := F)).L (K (F := F)).lev ∗ fireBatch d L C A b g q 400 (NR * (16 * k))
      ∗ ∃ W', ⌜∀ p ∈ W', p ∈ W ∨ p.2 = none⌝ ∗ owes (th d L) O W')) ?hbody) $$ [HB HO]
  case hbody =>
    intro k acc
    have hk := t3_lt k
    unfold k1_t3_body
    simp only [SparseCore.waitIndirectGather, Prog.lift, Prog.bind_op, Prog.bind_ret, Prog.pure_eq_ret]
    iintro ⟨#Hlv, HB, ⟨%W', %hW', HO⟩⟩
    iapply (Transfers.wp_waitBatchMulO EC 𝒱₀ (th d L) none none (N := NR) 16 (show _ = 16 * NR from credit_window g ⟨0, by rw [trips2]; decide⟩)
      (D := rowD d L C A b g q) (j := 400) (u := NR * (16 * k.val)) (by show 4096 * (16 * k.val) + 16 * 4096 ≤ 4096 * 400; omega) (O := O) (W := W')) $$ [HB HO]
    · isplitl [HB]; · iexact HB
      isplitl [HO]; · iexact HO
      iapply ((K (F := F)).mayWait_none (SemLoc.dma cc1_scratch4.sem) hO); iexact Hlv
    iintro ⟨HB, HO⟩
    rw [wp_ret]; imodintro
    isplitr; · iexact Hlv
    isplitl [HB]
    · rw [show NR * (16 * (k.val + 1)) = NR * (16 * k.val) + 16 * NR by show 4096 * (16 * (k.val + 1)) = 4096 * (16 * k.val) + 16 * 4096; omega]; iexact HB
    iexists (insert (SemLoc.dma cc1_scratch4.sem, none) W'); isplitr
    · ipureintro
      intro p hp
      rcases Finset.mem_insert.mp hp with rfl | hp
      · exact .inr rfl
      · exact hW' p hp
    iexact HO
  · isplitr; · iexact Hlv
    isplitl [HB]; · iexact HB
    iexists W; isplitr
    · ipureintro; exact fun p hp => .inl hp
    iexact HO
  iintro %acc H
  rw [show Scf.trips k1_t3_loop.lb k1_t3_loop.ub k1_t3_loop.st = 25 from trips3]
  icases H with ⟨-, HB, ⟨%W', %hW', HO⟩⟩
  iapply HK $$ %W' %hW'
  isplitl [HB]; · iexact HB
  iexact HO

/-! ## Every row of a chunk, joined -/

/-- The rows of a chunk, counted by list step and row of its window. -/
def rowEquiv : Fin 25 × Fin 16 ≃ Fin 400 := finProdFinEquiv

/-- The sixteen gathered rows of list step `k`, joined: its window of the slot, its row of the lists and its share of the table. -/
theorem step_join (g : Fin k1_t1_loop.trips) (q : PosShare TreeShare) (k : Fin k1_t2_loop.trips) :
    bigSep Finset.univ (rowDk d L C A b g q k)
      ⊢ (iprop(bPts d L (bufWin (g.val % 2) (16 * k.val) 16) (bufC C A b g.val) ∗ iPts d L (idxRow k.val) (idxC A b g.val)
          ∗ hPts d L C (qk q k.val (t2_lt k))) : sProp 𝕄) := by
  have h := rowsBack_join (F := F) (Name := ℕ) (U := UU) (Lvl := ℕ) (Ix := HIx 1) (th d L) srcW (dstW g k) gathers_S18x128_S16x128 (offW k) rfl gsize_pos (qk q k.val (t2_lt k))
    (C : Buf (Elt F) ((srcW).view.loc (th d L))) (bufC C A b g.val : Buf (Elt F) ((dstW g k).view.loc (th d L))) (idxC A b g.val : Buf (Elt F) ((offW k).view.loc (th d L)))
  rw [set_dstW, set_offW, set_srcW] at h
  exact h

/-- The four hundred gathered rows of a chunk, joined: the slot, the lists and the tile's share of the table. -/
theorem rows_join (g : Fin k1_t1_loop.trips) (q : PosShare TreeShare) :
    bigSep Finset.univ (rowD d L C A b g q)
      ⊢ (iprop(bPts d L (bufWin (g.val % 2) 0 400) (bufC C A b g.val) ∗ iPts d L Finset.univ (idxC A b g.val) ∗ hPts d L C q) : sProp 𝕄) := by
  have hre : ∀ (k : Fin 25) (i : Fin 16), rowD d L C A b g q (rowEquiv (k, i)) = rowDk d L C A b g q ⟨k.val, by rw [trips2]; exact k.isLt⟩ i := by
    intro k i
    have h : rowEquiv (k, i) = ⟨16 * k.val + i.val, by have := k.isLt; have := i.isLt; omega⟩ := Fin.ext (show i.val + 16 * k.val = 16 * k.val + i.val by omega)
    rw [h]
    exact (rowDk_eq d L C b g q ⟨k.val, by rw [trips2]; exact k.isLt⟩ i _).symm
  rw [BI.bigSep_univ_equiv rowEquiv, BI.bigSep_univ_prod]
  have hstep : ∀ k ∈ (Finset.univ : Finset (Fin 25)), bigSep Finset.univ (fun i : Fin 16 => rowD d L C A b g q (rowEquiv (k, i)))
      ⊢ (iprop(bPts d L (bufWin (g.val % 2) (16 * k.val) 16) (bufC C A b g.val) ∗ iPts d L (idxRow k.val) (idxC A b g.val) ∗ hPts d L C (pieceOf q 25 (by decide) k)) : sProp 𝕄) := by
    intro k _
    rw [BI.bigSep_congr fun i _ => hre k i]
    exact step_join d L C b g q ⟨k.val, by rw [trips2]; exact k.isLt⟩
  iintro H
  ihave H := (bigSep_mono' hstep) $$ H
  ihave H1 := Transfers.bigSep_sep_out _ _ _ $$ H
  icases H1 with ⟨Hb, H2⟩
  ihave H3 := Transfers.bigSep_sep_out _ _ _ $$ H2
  icases H3 with ⟨Hi, Hh⟩
  isplitl [Hb]
  · rw [show bufWin (g.val % 2) 0 400 = (Finset.univ : Finset (Fin 25)).biUnion (fun k => bufWin (g.val % 2) (16 * k.val) 16) by
      ext z
      rw [Finset.mem_biUnion, mem_bufWin]
      constructor
      · rintro ⟨h0, -, h2⟩
        exact ⟨⟨(z 1).val / 16, by omega⟩, Finset.mem_univ _, by rw [mem_bufWin]; exact ⟨h0, by show 16 * ((z 1).val / 16) ≤ _; omega, by show _ < 16 * ((z 1).val / 16) + 16; omega⟩⟩
      · rintro ⟨k, -, hk⟩
        rw [mem_bufWin] at hk
        have := k.isLt
        omega]
    iapply (Entails.of_eq (pointsTo_biUnion (ℓ := bLoc d L) Finset.univ (fun k : Fin 25 => bufWin (g.val % 2) (16 * k.val) 16) (fun k _ k' _ hne =>
      Finset.disjoint_left.mpr fun z h h' => by
        rw [mem_bufWin] at h h'
        exact hne (Fin.ext (by omega)))).symm)
    iexact Hb
  isplitl [Hi]
  · rw [show (Finset.univ : Finset S25x16.Idx) = (Finset.univ : Finset (Fin 25)).biUnion (fun k => idxRow k.val) by
      ext z
      rw [Finset.mem_biUnion]
      exact ⟨fun _ => ⟨z 0, Finset.mem_univ _, by rw [mem_idxRow]⟩, fun _ => Finset.mem_univ _⟩]
    iapply (Entails.of_eq (pointsTo_biUnion (ℓ := iLoc d L) Finset.univ (fun k : Fin 25 => idxRow k.val) (fun k _ k' _ hne =>
      Finset.disjoint_left.mpr fun z h h' => by
        rw [mem_idxRow] at h h'
        exact hne (Fin.ext (by omega)))).symm)
    iexact Hi
  iapply (Entails.of_eq (pointsTo_piecesOf (ℓ := hLoc d L) Finset.univ (C : Buf (Elt F) (hLoc d L)) (show 0 < 25 by decide) q).symm)
  iexact Hh

/-- A chunk's gathers: the two loops, from the tile's attributes, its share of the table and the slot, to the chunk's rows
    in the slot. -/
theorem gather_part (hA : ∀ x, (A x).toNat < 3) (g : Fin k1_t1_loop.trips) (q : PosShare TreeShare) (O : CellTallies nD τ sig (HIx 1)) (W : Waits sig (HIx 1)) (hO : ∀ g, O g none = 0)
    {α : Type} (kk : Unit → Prog (TpuEff nD τ sig (Elt F) Λ₀ (th d L).2) α) (Q : α → sProp 𝕄)
    (f : Buf (Elt F) (iLoc d L)) (fb : Buf (Elt F) (bLoc d L)) :
    iprop(levAts (K (F := F)).L (K (F := F)).lev ∗ tPts d L A b ∗ iPts d L Finset.univ f ∗ bPts d L (bufWin (g.val % 2) 0 400) fb ∗ hPts d L C q
        ∗ semVal (th d L, .dma cc1_scratch4.sem) 0 ∗ owes (th d L) O W
        ∗ (∀ W', ⌜∀ p ∈ W', p ∈ W ∨ p.2 = none⌝ -∗ tPts d L A b ∗ iPts d L Finset.univ (idxC A b g.val) ∗ bPts d L (bufWin (g.val % 2) 0 400) (bufC C A b g.val) ∗ hPts d L C q
            ∗ semVal (th d L, .dma cc1_scratch4.sem) 0 ∗ owes (th d L) O W' -∗ wp frame (wpE (defs₀ (F := F)) 𝒱₀ (th d L) none) Set.univ (kk ⟨⟩) Q))
      ⊢ wp frame (wpE (defs₀ (F := F)) 𝒱₀ (th d L) none) Set.univ (fireLoop d L g >>= fun _ => drainLoop d L g >>= kk) Q := by
  iintro ⟨#Hlv, Ht, Hi, Hb, Hh, Hs, HO, HK⟩
  imod (Transfers.batch_alloc' EC (th d L) none NR (rowD d L C A b g q)) $$ Hs with HB
  iapply (fire_loop d L C b hA g q _ Q f fb)
  isplitl [Ht]; · iexact Ht
  isplitl [Hi]; · iexact Hi
  isplitl [Hb]; · iexact Hb
  isplitl [Hh]; · iexact Hh
  isplitl [HB]; · iexact HB
  iintro ⟨Ht, HB⟩
  iapply (drain_loop d L C b g q O W hO kk Q)
  isplitr; · iexact Hlv
  isplitl [HB]; · iexact HB
  isplitl [HO]; · iexact HO
  iintro %W' %hW' ⟨HB, HO⟩
  imod (Transfers.batch_collect' EC (th d L) (N := NR) (show 0 < 4096 by decide) (D := rowD d L C A b g q)) $$ HB with ⟨HD, Hs⟩
  ihave HD' := (rows_join d L C b g q) $$ HD
  icases HD' with ⟨Hb, Hi, Hh⟩
  iapply HK $$ %W' %hW'
  isplitl [Ht]; · iexact Ht
  isplitl [Hi]; · iexact Hi
  isplitl [Hb]; · iexact Hb
  isplitl [Hh]; · iexact Hh
  isplitl [Hs]; · iexact Hs
  iexact HO

end Chunk

end Cert.Proof.Edge

end
-- ==== Proof.Outer.lean ====
/-
  A tile's chunks: each goes through one of two slots, its gathers filling the slot and a copy writing the slot out to the
  chunk's rows of the result, waited for just before the slot is used again.
-/
module

public import proofs.«01_k».proof.Proof.Chunk

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch (rowBack rowsBack_join wp_gatherBatch)

variable {F : FTy → Type}

local notation "𝕄" => MT nD τ sig (HIx 1) (Elt F) ℕ UU ℕ

/-! ## Which slot a chunk goes through -/

/-- Slot 0 is waited for before the even chunks from 2 on. -/
theorem cond2_iff : ∀ g : Fin k1_t1_loop.trips, k1_cond2 g = 1#1 ↔ 2 ≤ g.val ∧ g.val % 2 = 0 := by decide +kernel
/-- Slot 1 is waited for before the odd chunks from 3 on. -/
theorem cond3_iff : ∀ g : Fin k1_t1_loop.trips, k1_cond3 g = 1#1 ↔ 2 ≤ g.val ∧ g.val % 2 = 1 := by decide +kernel
/-- The even chunks are copied out of slot 0. -/
theorem cond4_iff : ∀ g : Fin k1_t1_loop.trips, k1_cond4 g = 1#1 ↔ g.val % 2 = 0 := by decide +kernel
/-- The odd chunks are copied out of slot 1. -/
theorem cond5_iff : ∀ g : Fin k1_t1_loop.trips, k1_cond5 g = 1#1 ↔ g.val % 2 = 1 := by decide +kernel

/-- Rows `lo` to `lo + m` of the result are the first `n` of them and the rest. -/
theorem rowsOf_cut (lo n m : ℕ) (h : n ≤ m) : rowsOf lo m = rowsOf lo n ∪ rowsOf (lo + n) (m - n) := by
  ext x; rw [Finset.mem_union, mem_rowsOf, mem_rowsOf, mem_rowsOf]; omega
/-- These two have no index in common. -/
theorem rowsOf_dis (lo n m : ℕ) : Disjoint (rowsOf lo n) (rowsOf (lo + n) m) :=
  Finset.disjoint_left.mpr fun x h h' => by rw [mem_rowsOf] at h h'; omega

section Outer

variable [FloatOps F] (d : Dev nD) (L : grid1.Coords)
variable (C : S18x128.Idx → Elt F .f32) {A : S640000.Idx → BitVec 32} (mo : Buf (Elt F) (oLoc d))

/-- The tile's first row. -/
abbrev bL : ℕ := base (cV L) (jV L)

/-- Rows of the result, held, are the first `n` of them held and the rest held. -/
theorem oPts_cut (lo n m : ℕ) (h : n ≤ m) (f : Buf (Elt F) (oLoc d)) : (oPts d (rowsOf lo m) f : sProp 𝕄) = iprop(oPts d (rowsOf lo n) f ∗ oPts d (rowsOf (lo + n) (m - n)) f) := by
  unfold oPts
  rw [rowsOf_cut lo n m h]
  exact pts_cut (ℓ := oLoc d) fullShare f (rowsOf_dis lo n (m - n))

/-- The result, as this tile's program addresses it. -/
abbrev outF (A : S640000.Idx → BitVec 32) : Buf (Elt F) (oLoc d) := outOf C A

/-- The units a chunk's copy credits. -/
abbrev NS : ℕ := 1638400

/-- What the copy of chunk `h` out of slot `p` brings: the chunk's rows written, and the slot. -/
def dlv (A : S640000.Idx → BitVec 32) (p h : ℕ) : sProp 𝕄 :=
  iprop(oPts d (rowsOf (bL L + 400 * h) 400) (outF d C A) ∗ ∃ fb, bPts d L (bufWin p 0 400) fb)
/-- Slot `p`, nothing outstanding from it. -/
def free (sm : DmaSem sig) (p : ℕ) : sProp 𝕄 := iprop((∃ fb, bPts d L (bufWin p 0 400) fb) ∗ semVal (th d L, .dma sm) 0)
/-- Slot `p`, the copy of chunk `h` outstanding. -/
def busy (A : S640000.Idx → BitVec 32) (sm : DmaSem sig) (p h : ℕ) : sProp 𝕄 := Transfers.Flight EC (th d L) (.dma sm) none NS (dlv d L C A p h)
/-- The last chunk before `g` that goes through slot `p`. -/
def lastOf (p g : ℕ) : ℕ := if (g - 1) % 2 = p then g - 1 else g - 2
/-- Slot `p` before chunk `g`. -/
def slotSt (A : S640000.Idx → BitVec 32) (sm : DmaSem sig) (p g : ℕ) : sProp 𝕄 := if p < g then busy d L C A sm p (lastOf p g) else free d L sm p

/-- Before chunk `g`, two or later, its slot has the copy of chunk `g - 2` outstanding. -/
theorem slot_wait (sm : DmaSem sig) {p g : ℕ} (h2 : 2 ≤ g) (hp : g % 2 = p) : slotSt d L C A sm p g = busy d L C A sm p (g - 2) := by
  unfold slotSt lastOf; rw [if_pos (by omega), if_neg (by omega)]
/-- Before chunks 0 and 1 their slots have nothing outstanding. -/
theorem slot_free (sm : DmaSem sig) {p g : ℕ} (h2 : ¬ 2 ≤ g) (hp : g % 2 = p) : slotSt d L C A sm p g = free d L sm p := by
  unfold slotSt; rw [if_neg (by omega)]
/-- After chunk `g` its slot has the copy of chunk `g` outstanding. -/
theorem slot_busy (sm : DmaSem sig) {p g : ℕ} (hp : g % 2 = p) : slotSt d L C A sm p (g + 1) = busy d L C A sm p g := by
  unfold slotSt lastOf; rw [if_pos (by omega), Nat.add_sub_cancel, if_pos hp]
/-- Chunk `g` leaves the other slot as it is. -/
theorem slot_keep (sm : DmaSem sig) {p g : ℕ} (hp2 : p < 2) (hp : g % 2 ≠ p) : slotSt d L C A sm p (g + 1) = slotSt d L C A sm p g := by
  unfold slotSt lastOf
  by_cases h : p < g
  · rw [if_pos (by omega), if_pos h, Nat.add_sub_cancel, if_neg hp, if_pos (by omega)]; congr 1
  · rw [if_neg (by omega), if_neg h]

/-- The chunk a copy out of slot 0 writes. -/
abbrev outW0 (g : Fin k1_t1_loop.trips) (h : k1_cond4 g = 1#1) : Memref sig .scVector .hbm S400x128 .f32 :=
  oV'.slice (Rect.unit (s := S320000x128) (k1_off10 L g) S400x128.size (k1_off10_inb L g h)) (fun _ => rfl)
/-- The chunk a copy out of slot 1 writes. -/
abbrev outW1 (g : Fin k1_t1_loop.trips) (h : k1_cond5 g = 1#1) : Memref sig .scVector .hbm S400x128 .f32 :=
  oV'.slice (Rect.unit (s := S320000x128) (k1_off11 L g) S400x128.size (k1_off11_inb L g h)) (fun _ => rfl)

/-- The chunk a copy out writes is four hundred rows of the result. -/
theorem set_out (off : Fin 2 → ℕ) (inb : ∀ a, off a + S400x128.size a ≤ S320000x128.size a) (lo : ℕ) (h0 : off = ![lo, 0]) :
    ((oV'.slice (Rect.unit (s := S320000x128) off S400x128.size inb) (fun _ => rfl)).view.set) = rowsOf lo 400 := by
  show ((View.whole main_v3_scv).slice _).set = _
  rw [View.set_slice_whole]
  ext z
  rw [Rect.mem_set_unit, mem_rowsOf, h0]
  constructor
  · intro h
    have h1 := h 0
    simp at h1
    omega
  · rintro ⟨h1, h2⟩ a
    match a with
    | 0 => simp; omega
    | 1 => have h : (z 1).val < 128 := (z 1).isLt; simp; exact h

/-- A copy out credits the units of a chunk. -/
theorem credit_out (off : Fin 2 → ℕ) (inb : ∀ a, off a + S400x128.size a ≤ S320000x128.size a) :
    ((oV'.slice (Rect.unit (s := S320000x128) off S400x128.size inb) (fun _ => rfl)).view.dmaCredit) = NS := by
  show S400x128.numel * 32 = 1638400
  decide +kernel

/-- A chunk's rows copied out are the result's. -/
theorem out_eq (g : ℕ) (off : Fin 2 → ℕ) (inb : ∀ a, off a + S400x128.size a ≤ S320000x128.size a) (h0 : off = ![bL L + 400 * g, 0])
    (w : S400x128.Idx → Elt F .f32) (hw : ∀ x, w x = C (cix (word A (bL L + 400 * g + (x 0).val)).toNat (x 1)))
    (y : S320000x128.Idx) (hy : y ∈ rowsOf (bL L + 400 * g) 400) :
    (oV'.slice (Rect.unit (s := S320000x128) off S400x128.size inb) (fun _ => rfl)).view.write (Elt F) mo w Finset.univ y = outF d C A y := by
  rw [← set_out off inb _ h0] at hy
  obtain ⟨x, -, rfl⟩ := Finset.mem_map.mp hy
  rw [View.write_emb_of_mem _ _ (Finset.mem_univ x), cast_eq, hw]
  have h1 : (((oV'.slice (Rect.unit (s := S320000x128) off S400x128.size inb) (fun _ => rfl)).view.emb x : S320000x128.Idx) 0).val = bL L + 400 * g + (x 0).val := by
    have e : off 0 = bL L + 400 * g := congrFun h0 0
    show off 0 + 1 * (x 0).val = _
    omega
  have h2 : ((oV'.slice (Rect.unit (s := S320000x128) off S400x128.size inb) (fun _ => rfl)).view.emb x : S320000x128.Idx) 1 = x 1 := by
    apply Fin.ext
    have e : off 1 = 0 := congrFun h0 1
    show off 1 + 1 * (x 1).val = (x 1).val
    omega
  show _ = C (cix (word A (((oV'.slice (Rect.unit (s := S320000x128) off S400x128.size inb) (fun _ => rfl)).view.emb x : S320000x128.Idx) 0).val).toNat
    (((oV'.slice (Rect.unit (s := S320000x128) off S400x128.size inb) (fun _ => rfl)).view.emb x : S320000x128.Idx) 1))
  rw [h1, h2]

/-- Slot 0, read after a chunk's gathers, holds the rows its edges take. -/
theorem read_slot0 (g : ℕ) (x : S400x128.Idx) :
    (slot0).view.read (Elt F) (bufC C A (bL L) g : Buf (Elt F) (bLoc d L)) x = C (cix (word A (bL L + 400 * g + (x 0).val)).toNat (x 1)) := by
  rw [View.read_apply, cast_eq]
  show C (cix (word A (bL L + 400 * g + ((slot0.view.emb x : S2x400x128.Idx) 1).val)).toNat ((slot0.view.emb x : S2x400x128.Idx) 2)) = _
  rw [(emb_slot0 x).2.1, show (slot0.view.emb x : S2x400x128.Idx) 2 = x 1 from Fin.ext (emb_slot0 x).2.2]

/-- Slot 1, read after a chunk's gathers, holds the rows its edges take. -/
theorem read_slot1 (g : ℕ) (x : S400x128.Idx) :
    (slot1).view.read (Elt F) (bufC C A (bL L) g : Buf (Elt F) (bLoc d L)) x = C (cix (word A (bL L + 400 * g + (x 0).val)).toNat (x 1)) := by
  rw [View.read_apply, cast_eq]
  show C (cix (word A (bL L + 400 * g + ((slot1.view.emb x : S2x400x128.Idx) 1).val)).toNat ((slot1.view.emb x : S2x400x128.Idx) 2)) = _
  rw [(emb_slot1 x).2.1, show (slot1.view.emb x : S2x400x128.Idx) 2 = x 1 from Fin.ext (emb_slot1 x).2.2]

/-- Before chunk `g`. -/
def outerInv (A : S640000.Idx → BitVec 32) (q : PosShare TreeShare) (O : CellTallies nD τ sig (HIx 1)) (W : Waits sig (HIx 1)) (g : ℕ) : sProp 𝕄 :=
  iprop(levAts (K (F := F)).L (K (F := F)).lev ∗ tPts d L A (bL L) ∗ (∃ f, iPts d L Finset.univ f) ∗ hPts d L C q ∗ semVal (th d L, .dma cc1_scratch4.sem) 0
    ∗ slotSt d L C A cc1_scratch5.sem 0 g ∗ slotSt d L C A cc1_scratch6.sem 1 g
    ∗ oPts d (rowsOf (bL L) (400 * (g - 2))) (outF d C A) ∗ oPts d (rowsOf (bL L + 400 * g) (10000 - 400 * g)) mo
    ∗ ∃ W', ⌜∀ p ∈ W', p ∈ W ∨ p.2 = none⌝ ∗ owes (th d L) O W')

/-- The copy of a chunk out of slot 0, issued. -/
theorem issue0 (g : Fin k1_t1_loop.trips) (hc : k1_cond4 g = 1#1) (hg : g.val % 2 = 0) (fo : Buf (Elt F) (oLoc d)) {α : Type}
    (kk : Unit → Prog (TpuEff nD τ sig (Elt F) Λ₀ (th d L).2) α) (Q : α → sProp 𝕄) (h1 h2 h3) :
    iprop(bPts d L (bufWin 0 0 400) (bufC C A (bL L) g.val) ∗ semVal (th d L, .dma cc1_scratch5.sem) 0 ∗ oPts d (rowsOf (bL L + 400 * g.val) 400) fo
        ∗ (slotSt d L C A cc1_scratch5.sem 0 (g.val + 1) -∗ wp frame (wpE (defs₀ (F := F)) 𝒱₀ (th d L) none) Set.univ (kk ⟨⟩) Q))
      ⊢ wp frame (wpE (defs₀ (F := F)) 𝒱₀ (th d L) none) Set.univ
          (.op (.enqueueDma slot0 (.here (outW0 L g hc)) (.dma cc1_scratch5.sem) h1 h2 h3) kk) Q := by
  have hoff : k1_off10 L g = ![bL L + 400 * g.val, 0] := k1_off10_eq L g
  rw [slot_busy d L C cc1_scratch5.sem hg]
  iintro ⟨Hb, Hs, Ho, HK⟩
  iapply (Transfers.wp_dmaLocal EC 𝒱₀ (th d L) none (src := slot0) (dst := outW0 L g hc) (sm := .dma cc1_scratch5.sem) (q := fullShare)
      (Sd := rowsOf (bL L + 400 * g.val) 400) (fs := bufC C A (bL L) g.val) (fd := fo) none NS
      (show S400x128.numel * 32 = 1638400 by decide +kernel)
      (show 0 < 1638400 by decide) (by rw [set_out _ _ _ hoff])) $$ [Hb Hs Ho]
  · rw [set_slot0]
    isplitl [Hb]; · iexact Hb
    isplitl [Ho]; · iexact Ho
    iexact Hs
  iintro HF
  iapply HK
  unfold busy
  iapply (Transfers.Flight_mono EC (th d L) ?h) $$ HF
  case h =>
    unfold dlv oPts
    rw [set_slot0, pointsTo_congr (out_eq d L C (A := A) fo g.val _ (k1_off10_inb L g hc) hoff _ (read_slot0 L C g.val))]
    iintro ⟨Ho, Hb⟩
    isplitl [Ho]; · iexact Ho
    iexists _; iexact Hb

/-- The copy of a chunk out of slot 1, issued. -/
theorem issue1 (g : Fin k1_t1_loop.trips) (hc : k1_cond5 g = 1#1) (hg : g.val % 2 = 1) (fo : Buf (Elt F) (oLoc d)) {α : Type}
    (kk : Unit → Prog (TpuEff nD τ sig (Elt F) Λ₀ (th d L).2) α) (Q : α → sProp 𝕄) (h1 h2 h3) :
    iprop(bPts d L (bufWin 1 0 400) (bufC C A (bL L) g.val) ∗ semVal (th d L, .dma cc1_scratch6.sem) 0 ∗ oPts d (rowsOf (bL L + 400 * g.val) 400) fo
        ∗ (slotSt d L C A cc1_scratch6.sem 1 (g.val + 1) -∗ wp frame (wpE (defs₀ (F := F)) 𝒱₀ (th d L) none) Set.univ (kk ⟨⟩) Q))
      ⊢ wp frame (wpE (defs₀ (F := F)) 𝒱₀ (th d L) none) Set.univ
          (.op (.enqueueDma slot1 (.here (outW1 L g hc)) (.dma cc1_scratch6.sem) h1 h2 h3) kk) Q := by
  have hoff : k1_off11 L g = ![bL L + 400 * g.val, 0] := k1_off11_eq L g
  rw [slot_busy d L C cc1_scratch6.sem hg]
  iintro ⟨Hb, Hs, Ho, HK⟩
  iapply (Transfers.wp_dmaLocal EC 𝒱₀ (th d L) none (src := slot1) (dst := outW1 L g hc) (sm := .dma cc1_scratch6.sem) (q := fullShare)
      (Sd := rowsOf (bL L + 400 * g.val) 400) (fs := bufC C A (bL L) g.val) (fd := fo) none NS
      (show S400x128.numel * 32 = 1638400 by decide +kernel)
      (show 0 < 1638400 by decide) (by rw [set_out _ _ _ hoff])) $$ [Hb Hs Ho]
  · rw [set_slot1]
    isplitl [Hb]; · iexact Hb
    isplitl [Ho]; · iexact Ho
    iexact Hs
  iintro HF
  iapply HK
  unfold busy
  iapply (Transfers.Flight_mono EC (th d L) ?h) $$ HF
  case h =>
    unfold dlv oPts
    rw [set_slot1, pointsTo_congr (out_eq d L C (A := A) fo g.val _ (k1_off11_inb L g hc) hoff _ (read_slot1 L C g.val))]
    iintro ⟨Ho, Hb⟩
    isplitl [Ho]; · iexact Ho
    iexists _; iexact Hb

/-- A chunk through slot 0, from the slot free: its gathers, then its copy out issued. -/
theorem chunk0 (hA : ∀ x, (A x).toNat < 3) (g : Fin k1_t1_loop.trips) (hc : k1_cond4 g = 1#1) (hg : g.val % 2 = 0) (q : PosShare TreeShare)
    (O : CellTallies nD τ sig (HIx 1)) (W : Waits sig (HIx 1)) (hO : ∀ g, O g none = 0) (h1 h2 h3) :
    iprop(levAts (K (F := F)).L (K (F := F)).lev ∗ tPts d L A (bL L) ∗ (∃ f, iPts d L Finset.univ f) ∗ hPts d L C q ∗ semVal (th d L, .dma cc1_scratch4.sem) 0
        ∗ free d L cc1_scratch5.sem 0 ∗ slotSt d L C A cc1_scratch6.sem 1 g.val
        ∗ oPts d (rowsOf (bL L) (400 * (g.val - 1))) (outF d C A) ∗ oPts d (rowsOf (bL L + 400 * g.val) (10000 - 400 * g.val)) mo
        ∗ ∃ W', ⌜∀ p ∈ W', p ∈ W ∨ p.2 = none⌝ ∗ owes (th d L) O W')
      ⊢ wp frame (wpE (defs₀ (F := F)) 𝒱₀ (th d L) none) Set.univ (fireLoop d L g >>= fun _ => drainLoop d L g >>= fun _ =>
          (.op (.enqueueDma slot0 (.here (outW0 L g hc)) (.dma cc1_scratch5.sem) h1 h2 h3) fun _ => .ret PUnit.unit)) (fun _ => outerInv d L C mo A q O W (g.val + 1)) := by
  have hlt := t1_lt g
  unfold free
  iintro ⟨#Hlv, Ht, ⟨%f, Hi⟩, Hh, Hg, ⟨⟨%fb, Hb⟩, Hs⟩, Hx, Hd, Hr, ⟨%W', %hW', HO⟩⟩
  iapply (gather_part d L C (bL L) hA g q O W' hO _ _ f fb)
  rw [hg]
  isplitr; · iexact Hlv
  isplitl [Ht]; · iexact Ht
  isplitl [Hi]; · iexact Hi
  isplitl [Hb]; · iexact Hb
  isplitl [Hh]; · iexact Hh
  isplitl [Hg]; · iexact Hg
  isplitl [HO]; · iexact HO
  iintro %W'' %hW'' ⟨Ht, Hi, Hb, Hh, Hg, HO⟩
  ihave Hr := (Entails.of_eq (oPts_cut d (bL L + 400 * g.val) 400 (10000 - 400 * g.val) (by omega) mo)) $$ Hr
  icases Hr with ⟨Hc, Hr⟩
  iapply (issue0 d L C g hc hg mo)
  isplitl [Hb]; · iexact Hb
  isplitl [Hs]; · iexact Hs
  isplitl [Hc]; · iexact Hc
  iintro Hn
  rw [wp_ret]; imodintro
  unfold outerInv
  rw [slot_keep d L C (A := A) cc1_scratch6.sem (p := 1) (g := g.val) (by decide) (by omega)]
  isplitr; · iexact Hlv
  isplitl [Ht]; · iexact Ht
  isplitl [Hi]; · iexists _; iexact Hi
  isplitl [Hh]; · iexact Hh
  isplitl [Hg]; · iexact Hg
  isplitl [Hn]; · iexact Hn
  isplitl [Hx]; · iexact Hx
  isplitl [Hd]
  · rw [show g.val + 1 - 2 = g.val - 1 by omega]; iexact Hd
  isplitl [Hr]
  · rw [show bL L + 400 * (g.val + 1) = bL L + 400 * g.val + 400 by omega, show 10000 - 400 * (g.val + 1) = 10000 - 400 * g.val - 400 by omega]; iexact Hr
  iexists W''
  isplitr
  · ipureintro; intro p hp
    rcases hW'' p hp with h | h
    · exact hW' p h
    · exact Or.inr h
  iexact HO

/-- The copy of an earlier chunk out of slot 0 waited for. -/
theorem wait0 (h : ℕ) (O : CellTallies nD τ sig (HIx 1)) (W : Waits sig (HIx 1)) (hO : ∀ g, O g none = 0) {α : Type}
    (src : Memref sig .scVector .vmem S400x128 .f32) (off : Fin 2 → ℕ) (inb : ∀ a, off a + S400x128.size a ≤ S320000x128.size a)
    (kk : Unit → Prog (TpuEff nD τ sig (Elt F) Λ₀ (th d L).2) α) (Q : α → sProp 𝕄) (h1 h2) :
    iprop(levAts (K (F := F)).L (K (F := F)).lev ∗ busy d L C A cc1_scratch5.sem 0 h ∗ owes (th d L) O W
        ∗ (free d L cc1_scratch5.sem 0 ∗ oPts d (rowsOf (bL L + 400 * h) 400) (outF d C A) ∗ owes (th d L) O (insert (SemLoc.dma cc1_scratch5.sem, none) W)
            -∗ wp frame (wpE (defs₀ (F := F)) 𝒱₀ (th d L) none) Set.univ (kk ⟨⟩) Q))
      ⊢ wp frame (wpE (defs₀ (F := F)) 𝒱₀ (th d L) none) Set.univ
          (.op (.waitDma2 cc1_scratch5.sem src (oV'.slice (Rect.unit (s := S320000x128) off S400x128.size inb) (fun _ => rfl)) h1 h2) kk) Q := by
  unfold busy free
  iintro ⟨#Hlv, HF, HO, HK⟩
  iapply (Transfers.wp_waitLocalO EC 𝒱₀ (th d L) none none (dstw := oV'.slice (Rect.unit (s := S320000x128) off S400x128.size inb) (fun _ => rfl)) (N := NS) (show S400x128.numel * 32 = 1638400 by decide +kernel)) $$ [HF HO]
  · isplitl [HF]; · iexact HF
    isplitl [HO]; · iexact HO
    iapply ((K (F := F)).mayWait_none (SemLoc.dma cc1_scratch5.sem) hO); iexact Hlv
  iintro ⟨HD, Hs, HO⟩
  unfold dlv
  icases HD with ⟨Ho, Hb⟩
  iapply HK
  isplitl [Hb Hs]
  · isplitl [Hb]; · iexact Hb
    iexact Hs
  isplitl [Ho]; · iexact Ho
  iexact HO

/-- A chunk through slot 1, from the slot free: its gathers, then its copy out issued. -/
theorem chunk1 (hA : ∀ x, (A x).toNat < 3) (g : Fin k1_t1_loop.trips) (hc : k1_cond5 g = 1#1) (hg : g.val % 2 = 1) (q : PosShare TreeShare)
    (O : CellTallies nD τ sig (HIx 1)) (W : Waits sig (HIx 1)) (hO : ∀ g, O g none = 0) (h1 h2 h3) :
    iprop(levAts (K (F := F)).L (K (F := F)).lev ∗ tPts d L A (bL L) ∗ (∃ f, iPts d L Finset.univ f) ∗ hPts d L C q ∗ semVal (th d L, .dma cc1_scratch4.sem) 0
        ∗ free d L cc1_scratch6.sem 1 ∗ slotSt d L C A cc1_scratch5.sem 0 g.val
        ∗ oPts d (rowsOf (bL L) (400 * (g.val - 1))) (outF d C A) ∗ oPts d (rowsOf (bL L + 400 * g.val) (10000 - 400 * g.val)) mo
        ∗ ∃ W', ⌜∀ p ∈ W', p ∈ W ∨ p.2 = none⌝ ∗ owes (th d L) O W')
      ⊢ wp frame (wpE (defs₀ (F := F)) 𝒱₀ (th d L) none) Set.univ (fireLoop d L g >>= fun _ => drainLoop d L g >>= fun _ =>
          (.op (.enqueueDma slot1 (.here (outW1 L g hc)) (.dma cc1_scratch6.sem) h1 h2 h3) fun _ => .ret PUnit.unit)) (fun _ => outerInv d L C mo A q O W (g.val + 1)) := by
  have hlt := t1_lt g
  unfold free
  iintro ⟨#Hlv, Ht, ⟨%f, Hi⟩, Hh, Hg, ⟨⟨%fb, Hb⟩, Hs⟩, Hx, Hd, Hr, ⟨%W', %hW', HO⟩⟩
  iapply (gather_part d L C (bL L) hA g q O W' hO _ _ f fb)
  rw [hg]
  isplitr; · iexact Hlv
  isplitl [Ht]; · iexact Ht
  isplitl [Hi]; · iexact Hi
  isplitl [Hb]; · iexact Hb
  isplitl [Hh]; · iexact Hh
  isplitl [Hg]; · iexact Hg
  isplitl [HO]; · iexact HO
  iintro %W'' %hW'' ⟨Ht, Hi, Hb, Hh, Hg, HO⟩
  ihave Hr := (Entails.of_eq (oPts_cut d (bL L + 400 * g.val) 400 (10000 - 400 * g.val) (by omega) mo)) $$ Hr
  icases Hr with ⟨Hc, Hr⟩
  iapply (issue1 d L C g hc hg mo)
  isplitl [Hb]; · iexact Hb
  isplitl [Hs]; · iexact Hs
  isplitl [Hc]; · iexact Hc
  iintro Hn
  rw [wp_ret]; imodintro
  unfold outerInv
  rw [slot_keep d L C (A := A) cc1_scratch5.sem (p := 0) (g := g.val) (by decide) (by omega)]
  isplitr; · iexact Hlv
  isplitl [Ht]; · iexact Ht
  isplitl [Hi]; · iexists _; iexact Hi
  isplitl [Hh]; · iexact Hh
  isplitl [Hg]; · iexact Hg
  isplitl [Hx]; · iexact Hx
  isplitl [Hn]; · iexact Hn
  isplitl [Hd]
  · rw [show g.val + 1 - 2 = g.val - 1 by omega]; iexact Hd
  isplitl [Hr]
  · rw [show bL L + 400 * (g.val + 1) = bL L + 400 * g.val + 400 by omega, show 10000 - 400 * (g.val + 1) = 10000 - 400 * g.val - 400 by omega]; iexact Hr
  iexists W''
  isplitr
  · ipureintro; intro p hp
    rcases hW'' p hp with h | h
    · exact hW' p h
    · exact Or.inr h
  iexact HO

/-- The copy of an earlier chunk out of slot 1 waited for. -/
theorem wait1 (h : ℕ) (O : CellTallies nD τ sig (HIx 1)) (W : Waits sig (HIx 1)) (hO : ∀ g, O g none = 0) {α : Type}
    (src : Memref sig .scVector .vmem S400x128 .f32) (off : Fin 2 → ℕ) (inb : ∀ a, off a + S400x128.size a ≤ S320000x128.size a)
    (kk : Unit → Prog (TpuEff nD τ sig (Elt F) Λ₀ (th d L).2) α) (Q : α → sProp 𝕄) (h1 h2) :
    iprop(levAts (K (F := F)).L (K (F := F)).lev ∗ busy d L C A cc1_scratch6.sem 1 h ∗ owes (th d L) O W
        ∗ (free d L cc1_scratch6.sem 1 ∗ oPts d (rowsOf (bL L + 400 * h) 400) (outF d C A) ∗ owes (th d L) O (insert (SemLoc.dma cc1_scratch6.sem, none) W)
            -∗ wp frame (wpE (defs₀ (F := F)) 𝒱₀ (th d L) none) Set.univ (kk ⟨⟩) Q))
      ⊢ wp frame (wpE (defs₀ (F := F)) 𝒱₀ (th d L) none) Set.univ
          (.op (.waitDma2 cc1_scratch6.sem src (oV'.slice (Rect.unit (s := S320000x128) off S400x128.size inb) (fun _ => rfl)) h1 h2) kk) Q := by
  unfold busy free
  iintro ⟨#Hlv, HF, HO, HK⟩
  iapply (Transfers.wp_waitLocalO EC 𝒱₀ (th d L) none none (dstw := oV'.slice (Rect.unit (s := S320000x128) off S400x128.size inb) (fun _ => rfl)) (N := NS) (show S400x128.numel * 32 = 1638400 by decide +kernel)) $$ [HF HO]
  · isplitl [HF]; · iexact HF
    isplitl [HO]; · iexact HO
    iapply ((K (F := F)).mayWait_none (SemLoc.dma cc1_scratch6.sem) hO); iexact Hlv
  iintro ⟨HD, Hs, HO⟩
  unfold dlv
  icases HD with ⟨Ho, Hb⟩
  iapply HK
  isplitl [Hb Hs]
  · isplitl [Hb]; · iexact Hb
    iexact Hs
  isplitl [Ho]; · iexact Ho
  iexact HO

/-- One trip of the chunk loop, through slot 0. -/
theorem t1_even (hA : ∀ x, (A x).toNat < 3) (g : Fin k1_t1_loop.trips) (hg : g.val % 2 = 0) (q : PosShare TreeShare) (O : CellTallies nD τ sig (HIx 1)) (W : Waits sig (HIx 1)) (hO : ∀ g, O g none = 0) :
    outerInv d L C mo A q O W g.val
      ⊢ wp frame (wpE (defs₀ (F := F)) 𝒱₀ (th d L) none) Set.univ
          (k1_t1_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2 g ⟨⟩) (fun _ => outerInv d L C mo A q O W (g.val + 1)) := by
  have e3 : ¬ k1_cond3 g = 1#1 := fun h => by have := (cond3_iff g).mp h; omega
  have e4 : k1_cond4 g = 1#1 := (cond4_iff g).mpr hg
  have e5 : ¬ k1_cond5 g = 1#1 := fun h => by have := (cond5_iff g).mp h; omega
  unfold k1_t1_body
  by_cases h2 : 2 ≤ g.val
  · have e2 : k1_cond2 g = 1#1 := (cond2_iff g).mpr ⟨h2, hg⟩
    simp only [Prog.lift, Prog.bind_op, Prog.bind_ret, Prog.pure_eq_ret, e2, e3, e4, e5, ↓reduceDIte]
    unfold outerInv
    rw [slot_wait d L C cc1_scratch5.sem h2 hg]
    iintro ⟨#Hlv, Ht, Hi, Hh, Hg, Hw, Hx, Hd, Hr, ⟨%W', %hW', HO⟩⟩
    iapply (wait0 d L C (g.val - 2) O W' hO slot0 (k1_off3 L) (k1_off3_inb L g e2))
    isplitr; · iexact Hlv
    isplitl [Hw]; · iexact Hw
    isplitl [HO]; · iexact HO
    iintro ⟨Hw, Hc, HO⟩
    iapply (chunk0 d L C mo hA g e4 hg q O W hO _ _ _)
    isplitr; · iexact Hlv
    isplitl [Ht]; · iexact Ht
    isplitl [Hi]; · iexact Hi
    isplitl [Hh]; · iexact Hh
    isplitl [Hg]; · iexact Hg
    isplitl [Hw]; · iexact Hw
    isplitl [Hx]; · iexact Hx
    isplitl [Hd Hc]
    · iapply (Entails.of_eq (oPts_cut d (bL L) (400 * (g.val - 2)) (400 * (g.val - 1)) (by omega) (outF d C A)).symm)
      rw [show 400 * (g.val - 1) - 400 * (g.val - 2) = 400 by omega]
      isplitl [Hd]; · iexact Hd
      iexact Hc
    isplitl [Hr]; · iexact Hr
    iexists (insert (SemLoc.dma cc1_scratch5.sem, none) W')
    isplitr
    · ipureintro; intro p hp
      rcases Finset.mem_insert.mp hp with rfl | h
      · exact Or.inr rfl
      · exact hW' p h
    iexact HO
  · have e2 : ¬ k1_cond2 g = 1#1 := fun h => h2 ((cond2_iff g).mp h).1
    simp only [Prog.lift, Prog.bind_op, Prog.bind_ret, Prog.pure_eq_ret, e2, e3, e4, e5, ↓reduceDIte]
    refine BIBase.Entails.trans ?_ (chunk0 d L C mo hA g e4 hg q O W hO _ _ _)
    unfold outerInv
    rw [slot_free d L C cc1_scratch5.sem h2 hg, show g.val - 2 = g.val - 1 by omega]

/-- One trip of the chunk loop, through slot 1. -/
theorem t1_odd (hA : ∀ x, (A x).toNat < 3) (g : Fin k1_t1_loop.trips) (hg : g.val % 2 = 1) (q : PosShare TreeShare) (O : CellTallies nD τ sig (HIx 1)) (W : Waits sig (HIx 1)) (hO : ∀ g, O g none = 0) :
    outerInv d L C mo A q O W g.val
      ⊢ wp frame (wpE (defs₀ (F := F)) 𝒱₀ (th d L) none) Set.univ
          (k1_t1_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2 g ⟨⟩) (fun _ => outerInv d L C mo A q O W (g.val + 1)) := by
  have e3 : ¬ k1_cond2 g = 1#1 := fun h => by have := (cond2_iff g).mp h; omega
  have e4 : k1_cond5 g = 1#1 := (cond5_iff g).mpr hg
  have e5 : ¬ k1_cond4 g = 1#1 := fun h => by have := (cond4_iff g).mp h; omega
  unfold k1_t1_body
  by_cases h2 : 2 ≤ g.val
  · have e2 : k1_cond3 g = 1#1 := (cond3_iff g).mpr ⟨h2, hg⟩
    simp only [Prog.lift, Prog.bind_op, Prog.bind_ret, Prog.pure_eq_ret, e2, e3, e4, e5, ↓reduceDIte]
    unfold outerInv
    rw [slot_wait d L C cc1_scratch6.sem h2 hg]
    iintro ⟨#Hlv, Ht, Hi, Hh, Hg, Hx, Hw, Hd, Hr, ⟨%W', %hW', HO⟩⟩
    iapply (wait1 d L C (g.val - 2) O W' hO slot1 (k1_off4 L) (k1_off4_inb L g e2))
    isplitr; · iexact Hlv
    isplitl [Hw]; · iexact Hw
    isplitl [HO]; · iexact HO
    iintro ⟨Hw, Hc, HO⟩
    iapply (chunk1 d L C mo hA g e4 hg q O W hO _ _ _)
    isplitr; · iexact Hlv
    isplitl [Ht]; · iexact Ht
    isplitl [Hi]; · iexact Hi
    isplitl [Hh]; · iexact Hh
    isplitl [Hg]; · iexact Hg
    isplitl [Hw]; · iexact Hw
    isplitl [Hx]; · iexact Hx
    isplitl [Hd Hc]
    · iapply (Entails.of_eq (oPts_cut d (bL L) (400 * (g.val - 2)) (400 * (g.val - 1)) (by omega) (outF d C A)).symm)
      rw [show 400 * (g.val - 1) - 400 * (g.val - 2) = 400 by omega]
      isplitl [Hd]; · iexact Hd
      iexact Hc
    isplitl [Hr]; · iexact Hr
    iexists (insert (SemLoc.dma cc1_scratch6.sem, none) W')
    isplitr
    · ipureintro; intro p hp
      rcases Finset.mem_insert.mp hp with rfl | h
      · exact Or.inr rfl
      · exact hW' p h
    iexact HO
  · have e2 : ¬ k1_cond3 g = 1#1 := fun h => h2 ((cond3_iff g).mp h).1
    simp only [Prog.lift, Prog.bind_op, Prog.bind_ret, Prog.pure_eq_ret, e2, e3, e4, e5, ↓reduceDIte]
    refine BIBase.Entails.trans ?_ (chunk1 d L C mo hA g e4 hg q O W hO _ _ _)
    unfold outerInv
    rw [slot_free d L C cc1_scratch6.sem h2 hg, show g.val - 2 = g.val - 1 by omega]
    iintro ⟨Hlv, Ht, Hi, Hh, Hg, Hx, Hw, Hd, Hr, HO⟩
    isplitl [Hlv]; · iexact Hlv
    isplitl [Ht]; · iexact Ht
    isplitl [Hi]; · iexact Hi
    isplitl [Hh]; · iexact Hh
    isplitl [Hg]; · iexact Hg
    isplitl [Hw]; · iexact Hw
    isplitl [Hx]; · iexact Hx
    isplitl [Hd]; · iexact Hd
    isplitl [Hr]; · iexact Hr
    iexact HO

/-- The loop over the tile's chunks. -/
theorem t1_loop (hA : ∀ x, (A x).toNat < 3) (q : PosShare TreeShare) (O : CellTallies nD τ sig (HIx 1)) (W : Waits sig (HIx 1)) (hO : ∀ g, O g none = 0)
    {α : Type} (kk : Unit → Prog (TpuEff nD τ sig (Elt F) Λ₀ (th d L).2) α) (Q : α → sProp 𝕄) :
    iprop(outerInv d L C mo A q O W 0 ∗ (outerInv d L C mo A q O W 25 -∗ wp frame (wpE (defs₀ (F := F)) 𝒱₀ (th d L) none) Set.univ (kk ⟨⟩) Q))
      ⊢ wp frame (wpE (defs₀ (F := F)) 𝒱₀ (th d L) none) Set.univ
          (Scf.Loop.for k1_t1_loop k1_t1_ok ⟨⟩ (k1_t1_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2) >>= kk) Q := by
  iintro ⟨H, HK⟩
  iapply (Scf.wp_for_bind _ _ _ _ _ _ k1_t1_ok ⟨⟩ _ (fun k (_ : Unit) => outerInv d L C mo A q O W k) ?hbody) $$ H
  case hbody =>
    intro g acc
    by_cases hg : g.val % 2 = 0
    · exact t1_even d L C mo hA g hg q O W hO
    · exact t1_odd d L C mo hA g (by omega) q O W hO
  iintro %acc H
  rw [show Scf.trips k1_t1_loop.lb k1_t1_loop.ub k1_t1_loop.st = 25 from trips1]
  iapply HK
  iexact H

/-- The tile's copies that are still outstanding after its last chunk, waited for: every row of the tile is written. -/
theorem out_waits (q : PosShare TreeShare) (O : CellTallies nD τ sig (HIx 1)) (W : Waits sig (HIx 1)) (hO : ∀ g, O g none = 0)
    (src src' : Memref sig .scVector .vmem S400x128 .f32) (off : Fin 2 → ℕ) (inb : ∀ a, off a + S400x128.size a ≤ S320000x128.size a)
    {α : Type} (kk : Unit → Prog (TpuEff nD τ sig (Elt F) Λ₀ (th d L).2) α) (Q : α → sProp 𝕄) (h1 h2 h3 h4) :
    iprop(outerInv d L C mo A q O W 25
        ∗ (tPts d L A (bL L) ∗ (∃ f, iPts d L Finset.univ f) ∗ hPts d L C q ∗ semVal (th d L, .dma cc1_scratch4.sem) 0
            ∗ free d L cc1_scratch5.sem 0 ∗ free d L cc1_scratch6.sem 1 ∗ oPts d (rowsOf (bL L) 10000) (outF d C A)
            ∗ (∃ W', ⌜∀ p ∈ W', p ∈ W ∨ p.2 = none⌝ ∗ owes (th d L) O W')
            -∗ wp frame (wpE (defs₀ (F := F)) 𝒱₀ (th d L) none) Set.univ (kk ⟨⟩) Q))
      ⊢ wp frame (wpE (defs₀ (F := F)) 𝒱₀ (th d L) none) Set.univ
          (.op (.waitDma2 cc1_scratch6.sem src (oV'.slice (Rect.unit (s := S320000x128) off S400x128.size inb) (fun _ => rfl)) h1 h2) fun _ =>
            .op (.waitDma2 cc1_scratch5.sem src' (oV'.slice (Rect.unit (s := S320000x128) off S400x128.size inb) (fun _ => rfl)) h3 h4) kk) Q := by
  unfold outerInv
  rw [show slotSt d L C A cc1_scratch5.sem 0 25 = busy d L C A cc1_scratch5.sem 0 24 from rfl,
    show slotSt d L C A cc1_scratch6.sem 1 25 = busy d L C A cc1_scratch6.sem 1 23 from rfl]
  iintro ⟨⟨#Hlv, Ht, Hi, Hh, Hg, H5, H6, Hd, -, ⟨%W', %hW', HO⟩⟩, HK⟩
  iapply (wait1 d L C 23 O W' hO src off inb)
  isplitr; · iexact Hlv
  isplitl [H6]; · iexact H6
  isplitl [HO]; · iexact HO
  iintro ⟨H6, Hc6, HO⟩
  iapply (wait0 d L C 24 O _ hO src' off inb)
  isplitr; · iexact Hlv
  isplitl [H5]; · iexact H5
  isplitl [HO]; · iexact HO
  iintro ⟨H5, Hc5, HO⟩
  iapply HK
  isplitl [Ht]; · iexact Ht
  isplitl [Hi]; · iexact Hi
  isplitl [Hh]; · iexact Hh
  isplitl [Hg]; · iexact Hg
  isplitl [H5]; · iexact H5
  isplitl [H6]; · iexact H6
  isplitl [Hd Hc5 Hc6]
  · rw [oPts_cut d (bL L) (400 * (25 - 2)) 10000 (by omega), show 10000 - 400 * (25 - 2) = 800 from rfl, oPts_cut d (bL L + 400 * (25 - 2)) 400 800 (by omega)]
    isplitl [Hd]; · iexact Hd
    isplitl [Hc6]; · iexact Hc6
    iexact Hc5
  iexists (insert (SemLoc.dma cc1_scratch5.sem, none) (insert (SemLoc.dma cc1_scratch6.sem, none) W'))
  isplitr
  · ipureintro; intro p hp
    rcases Finset.mem_insert.mp hp with rfl | h
    · exact Or.inr rfl
    rcases Finset.mem_insert.mp h with rfl | h
    · exact Or.inr rfl
    · exact hW' p h
  iexact HO

end Outer

end Cert.Proof.Edge

end
-- ==== Proof.Copies.lean ====
/-
  What a tile does: tile `0` of a SparseCore copies the table of sums into the shared scratch; every tile copies its
  attributes in; after the barrier it writes its rows, chunk by chunk.
-/
module

public import proofs.«01_k».proof.Proof.Outer

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.GatherBatch (rowBack rowsBack_join wp_gatherBatch)

variable {F : FTy → Type}

local notation "𝕄" => MT nD τ sig (HIx 1) (Elt F) ℕ UU ℕ

/-- The kernel's test for the first tile holds of tile 0 alone. -/
theorem first_iff : ∀ n : Fin 16, Scalar.cmpi (w := 32) .ne (Scalar.extui (Scalar.cmpi (w := 32) .eq (BitVec.ofNat 32 n.val) 0#32) : BitVec 32) 0#32 = 1#1 ↔ n.val = 0 := by
  decide +kernel

section Tile

variable [FloatOps F] (d : Dev nD) (L : grid1.Coords)

/-- A copy and, right after it, the wait for it. -/
theorem copy_wait {sp sp' : Space} {s : Shape} {e : EltTy} (src : Memref sig .scVector sp s e) (dst : Memref sig .scVector sp' s e) (sm : DmaSem sig) (N : ℕ)
    (hN : dst.view.amount (.dma sm) = N) (hN' : dst.view.dmaCredit = N) (hN0 : 0 < N) (q : PosShare TreeShare) (fs : Buf (Elt F) (src.view.loc (th d L)))
    (Sd : Finset (Idx (dst.view.loc (th d L)))) (fd : Buf (Elt F) (dst.view.loc (th d L))) (hSd : dst.view.set ⊆ Sd)
    (O : CellTallies nD τ sig (HIx 1)) (W : Waits sig (HIx 1)) (hO : ∀ g, O g none = 0) {α : Type}
    (kk : Unit → Prog (TpuEff nD τ sig (Elt F) Λ₀ (th d L).2) α) (Q : α → sProp 𝕄) (h1 h2 h3 h4 h5) :
    iprop(levAts (K (F := F)).L (K (F := F)).lev ∗ (src.view.loc (th d L) ↦[src.view.set]{q} fs) ∗ (dst.view.loc (th d L) ↦[Sd]{fullShare} fd)
        ∗ semVal (th d L, .dma sm) 0 ∗ owes (th d L) O W
        ∗ ((dst.view.loc (th d L) ↦[Sd]{fullShare} (dst.view.write (Elt F) fd (src.view.read (Elt F) fs) Finset.univ)) ∗ (src.view.loc (th d L) ↦[src.view.set]{q} fs)
            ∗ semVal (th d L, .dma sm) 0 ∗ owes (th d L) O (insert (SemLoc.dma sm, none) W)
            -∗ wp frame (wpE (defs₀ (F := F)) 𝒱₀ (th d L) none) Set.univ (kk ⟨⟩) Q))
      ⊢ wp frame (wpE (defs₀ (F := F)) 𝒱₀ (th d L) none) Set.univ
          (.op (.enqueueDma src (.here dst) (.dma sm) h1 h2 h3) fun _ => .op (.waitDma2 sm src dst h4 h5) kk) Q := by
  iintro ⟨#Hlv, Hs, Hd, Hv, HO, HK⟩
  iapply (Transfers.wp_dmaLocal EC 𝒱₀ (th d L) none (src := src) (dst := dst) (sm := .dma sm) (q := q) (Sd := Sd) (fs := fs) (fd := fd) none N hN hN0 hSd) $$ [Hs Hd Hv]
  · isplitl [Hs]; · iexact Hs
    isplitl [Hd]; · iexact Hd
    iexact Hv
  iintro HF
  iapply (Transfers.wp_waitLocalO EC 𝒱₀ (th d L) none none (dstw := dst) (N := N) hN') $$ [HF HO]
  · isplitl [HF]; · iexact HF
    isplitl [HO]; · iexact HO
    iapply ((K (F := F)).mayWait_none (SemLoc.dma sm) hO); iexact Hlv
  iintro ⟨⟨Hd, Hs⟩, Hv, HO⟩
  iapply HK
  isplitl [Hd]; · iexact Hd
  isplitl [Hs]; · iexact Hs
  isplitl [Hv]; · iexact Hv
  iexact HO

/-! ## The attributes in the tile's scratch -/

abbrev srcA1 : Memref sig .scVector .hbm S10000 .i32 := aV'.slice (Rect.unit (s := S640000) (k1_off1 L) S10000.size (k1_off1_inb L)) (fun _ => rfl)
abbrev srcA2 : Memref sig .scVector .hbm S10000 .i32 := aV'.slice (Rect.unit (s := S640000) (k1_off2 L) S10000.size (k1_off2_inb L)) (fun _ => rfl)
abbrev dstA1 : Memref sig .scVector .vmem S10000 .i32 := atV.slice (Rect.unit (s := S20000) ![0] S10000.size inb_S20000_S10000_0) (fun _ => rfl)
abbrev dstA2 : Memref sig .scVector .vmem S10000 .i32 := atV.slice (Rect.unit (s := S20000) ![10000] S10000.size inb_S20000_S10000_10000) (fun _ => rfl)

/-- The first copy of attributes fills the first ten thousand words of the scratch. -/
theorem set_dstA1 (x : S20000.Idx) : x ∈ (dstA1).view.set ↔ (x 0).val < 10000 := by
  have h0 : (dstA1).view.set = (Rect.unit (s := S20000) ![0] S10000.size inb_S20000_S10000_0).set := View.set_slice_whole _ _
  rw [h0, Rect.mem_set_unit]
  constructor
  · intro h; have h1 := h 0; simp at h1; exact h1
  · intro h a; match a with
    | 0 => simp; exact h
/-- The second copy of attributes fills the last ten thousand words. -/
theorem set_dstA2 (x : S20000.Idx) : x ∈ (dstA2).view.set ↔ 10000 ≤ (x 0).val := by
  have h0 : (dstA2).view.set = (Rect.unit (s := S20000) ![10000] S10000.size inb_S20000_S10000_10000).set := View.set_slice_whole _ _
  rw [h0, Rect.mem_set_unit]
  constructor
  · intro h; have h1 := h 0; simp at h1; omega
  · intro h a; match a with
    | 0 => have hx : (x 0).val < 20000 := (x 0).isLt
           simp; omega

/-- An array of attributes at an index is its word of that number. -/
theorem attrAt_eq (A : S640000.Idx → BitVec 32) (z : S640000.Idx) (n : ℕ) (h : (z 0).val = n) : A z = attrAt A n := by
  have hz : (z 0).val < 640000 := (z 0).isLt
  unfold attrAt
  rw [dif_pos (by omega)]
  congr 1; funext a
  match a with
  | 0 => exact Fin.ext h

/-- The first copy reads from the tile's first edge on. -/
theorem emb_srcA1 (y : S10000.Idx) : ((srcA1 L).view.emb y 0).val = bL L + (y 0).val := by
  have e1 : k1_off1 L 0 = bL L := congrFun (k1_off1_eq L) 0
  have e2 : ((srcA1 L).view.emb y 0).val = k1_off1 L 0 + 1 * (y 0).val := rfl
  rw [e2, e1, Nat.one_mul]
/-- The second copy reads from the same edge of the second column on. -/
theorem emb_srcA2 (y : S10000.Idx) : ((srcA2 L).view.emb y 0).val = bL L + 320000 + (y 0).val := by
  have e0 : bL L = 20000 * (L 1).val + 10000 * (L 0).val := rfl
  have e1 : k1_off2 L 0 = bL L + 320000 := by rw [e0]; exact congrFun (k1_off2_eq L) 0
  have e2 : ((srcA2 L).view.emb y 0).val = k1_off2 L 0 + 1 * (y 0).val := rfl
  rw [e2, e1, Nat.one_mul]
/-- The first copy writes from word 0 on. -/
theorem emb_dstA1 (y : S10000.Idx) : ((dstA1).view.emb y 0).val = (y 0).val := by
  have e2 : ((dstA1).view.emb y 0).val = 0 + 1 * (y 0).val := rfl
  rw [e2, Nat.one_mul, Nat.zero_add]
/-- The second copy writes from word 10000 on. -/
theorem emb_dstA2 (y : S10000.Idx) : ((dstA2).view.emb y 0).val = 10000 + (y 0).val := by
  have e2 : ((dstA2).view.emb y 0).val = 10000 + 1 * (y 0).val := rfl
  rw [e2, Nat.one_mul]

/-- A word of the scratch's first half is the first attribute of its edge. -/
theorem attrC_lo' (A : S640000.Idx → BitVec 32) (b n : ℕ) (x : S20000.Idx) (h : (x 0).val = n) (hn : n < 10000) : attrC A b x = attrAt A (b + n) := by
  unfold attrC; rw [h, if_pos hn]
/-- A word of the scratch's second half is the second attribute of its edge. -/
theorem attrC_hi' (A : S640000.Idx → BitVec 32) (b n : ℕ) (x : S20000.Idx) (h : (x 0).val = 10000 + n) : attrC A b x = attrAt A (320000 + b + n) := by
  unfold attrC; rw [h, if_neg (by omega), Nat.add_sub_cancel_left]

/-- After both copies the scratch holds the tile's attributes. -/
theorem attrs_eq (A : S640000.Idx → BitVec 32) (f : Buf (Elt F) (tLoc d L)) (x : S20000.Idx) :
    (dstA2).view.write (Elt F) ((dstA1).view.write (Elt F) f ((srcA1 L).view.read (Elt F) (A : Buf (Elt F) ((srcA1 L).view.loc (th d L)))) Finset.univ)
        ((srcA2 L).view.read (Elt F) (A : Buf (Elt F) ((srcA2 L).view.loc (th d L)))) Finset.univ x
      = attrC A (bL L) x := by
  by_cases hx : (x 0).val < 10000
  · rw [View.write_of_not_mem _ _ _ (show x ∉ (dstA2).view.set by rw [set_dstA2]; omega)]
    have hm := (set_dstA1 x).mpr hx
    obtain ⟨y, -, rfl⟩ := Finset.mem_map.mp hm
    rw [View.write_emb_of_mem _ _ (Finset.mem_univ y), cast_eq, View.read_apply, cast_eq]
    have hy : (y 0).val < 10000 := (y 0).isLt
    exact (attrAt_eq A _ _ (emb_srcA1 L y)).trans (attrC_lo' A (bL L) (y 0).val _ (emb_dstA1 y) hy).symm
  · have hm := (set_dstA2 x).mpr (by omega)
    obtain ⟨y, -, rfl⟩ := Finset.mem_map.mp hm
    rw [View.write_emb_of_mem _ _ (Finset.mem_univ y), cast_eq, View.read_apply, cast_eq]
    have h := attrC_hi' A (bL L) (y 0).val _ (emb_dstA2 y)
    refine (attrAt_eq A _ _ (emb_srcA2 L y)).trans (Eq.trans ?_ h.symm)
    rw [Nat.add_comm (bL L) 320000]

/-! ## The tile's own storage -/

abbrev dcell (n : DmaSem sig) : GSem nD τ sig := (th d L, .dma n)

/-- A copy's semaphore that is scoped to a tile is among the tile's own. -/
theorem mem_dcell (n : DmaSem sig) (h : (SemLoc.dma n : SemLoc sig).isScoped .scVector = true) : dcell d L n ∈ ownCells (V d (cV L) (jV L)) :=
  (mem_ownCells (g := dcell d L n)).mpr ⟨rfl, h⟩
/-- Different semaphores have different cells. -/
theorem dcell_ne {n k : DmaSem sig} (h : n ≠ k) : dcell d L n ≠ dcell d L k := fun e => h (SemLoc.dma.inj (Prod.mk.inj e).2)

/-- The semaphores the tile's copies use are among its own: they are they, and the rest. -/
theorem ownSems0_tile :
    (ownSems0 (V d (cV L) (jV L)) : sProp 𝕄)
      = iprop(semVal (dcell d L cc1_scratch4.sem) 0 ∗ semVal (dcell d L cc1_scratch5.sem) 0 ∗ semVal (dcell d L cc1_scratch6.sem) 0
          ∗ semVal (dcell d L cc1_scoped0.sem) 0 ∗ semVal (dcell d L cc1_scoped1.sem) 0 ∗ semVal (dcell d L cc1_scoped2.sem) 0
          ∗ bigSep (((((((ownCells (V d (cV L) (jV L))).erase (dcell d L cc1_scratch4.sem)).erase (dcell d L cc1_scratch5.sem)).erase (dcell d L cc1_scratch6.sem)).erase
              (dcell d L cc1_scoped0.sem)).erase (dcell d L cc1_scoped1.sem)).erase (dcell d L cc1_scoped2.sem)) fun g => semVal g 0) := by
  unfold SparseCore.Cfg.ownSems0
  rw [SparseCore.bigSep_erase' (mem_dcell d L cc1_scratch4.sem (by decide)),
    SparseCore.bigSep_erase' (Finset.mem_erase.mpr ⟨dcell_ne d L (n := cc1_scratch5.sem) (k := cc1_scratch4.sem) (by decide), mem_dcell d L cc1_scratch5.sem (by decide)⟩),
    SparseCore.bigSep_erase' (Finset.mem_erase.mpr ⟨dcell_ne d L (n := cc1_scratch6.sem) (k := cc1_scratch5.sem) (by decide),
      Finset.mem_erase.mpr ⟨dcell_ne d L (n := cc1_scratch6.sem) (k := cc1_scratch4.sem) (by decide), mem_dcell d L cc1_scratch6.sem (by decide)⟩⟩),
    SparseCore.bigSep_erase' (i := dcell d L cc1_scoped0.sem) (by
      repeat' (first | exact mem_dcell d L _ (by decide) | refine Finset.mem_erase.mpr ⟨dcell_ne d L (by decide), ?_⟩)),
    SparseCore.bigSep_erase' (i := dcell d L cc1_scoped1.sem) (by
      repeat' (first | exact mem_dcell d L _ (by decide) | refine Finset.mem_erase.mpr ⟨dcell_ne d L (by decide), ?_⟩)),
    SparseCore.bigSep_erase' (i := dcell d L cc1_scoped2.sem) (by
      repeat' (first | exact mem_dcell d L _ (by decide) | refine Finset.mem_erase.mpr ⟨dcell_ne d L (by decide), ?_⟩))]

abbrev vref (b : Ref sig .scVector) : DevRef τ sig := (Proc.scVector (cV L) (jV L)).devRef b

/-- The tile's three scratch buffers are among its own: they are they, and the rest. -/
theorem ownBufs_tile :
    (ownBufs (V d (cV L) (jV L)) : sProp 𝕄)
      = iprop((∃ f : Buf (Elt F) (tLoc d L), tLoc d L ↦{fullShare} f) ∗ (∃ f : Buf (Elt F) (iLoc d L), iLoc d L ↦{fullShare} f)
          ∗ (∃ f : Buf (Elt F) (bLoc d L), bLoc d L ↦{fullShare} f)
          ∗ bigSep ((((ownRefs (τ := τ) (.scVector (cV L) (jV L))).erase (vref L cc1_scratch0)).erase (vref L cc1_scratch1)).erase (vref L cc1_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := vref L cc1_scratch0) rfl),
    SparseCore.bigSep_erase' (i := vref L cc1_scratch1) (Finset.mem_erase.mpr ⟨fun e => absurd e (by simp [vref]), SparseCore.Cfg.mem_ownRefs_of_owner (p := Proc.scVector (cV L) (jV L)) (b := vref L cc1_scratch1) rfl⟩),
    SparseCore.bigSep_erase' (i := vref L cc1_scratch2) (Finset.mem_erase.mpr ⟨fun e => absurd e (by simp [vref]), Finset.mem_erase.mpr ⟨fun e => absurd e (by simp [vref]),
      SparseCore.Cfg.mem_ownRefs_of_owner (p := Proc.scVector (cV L) (jV L)) (b := vref L cc1_scratch2) rfl⟩⟩)]

/-- The slots' buffer is its two slots. -/
theorem slots_cut (f : Buf (Elt F) (bLoc d L)) : (bPts d L Finset.univ f : sProp 𝕄) = iprop(bPts d L (bufWin 0 0 400) f ∗ bPts d L (bufWin 1 0 400) f) := by
  have h : (Finset.univ : Finset S2x400x128.Idx) = bufWin 0 0 400 ∪ bufWin 1 0 400 := by
    ext x
    have h0 : (x 0).val < 2 := (x 0).isLt
    have h1 : (x 1).val < 400 := (x 1).isLt
    rw [Finset.mem_union, mem_bufWin, mem_bufWin]
    simp only [Finset.mem_univ, true_iff]
    omega
  show ((bLoc d L ↦[(Finset.univ : Finset S2x400x128.Idx)]{fullShare} f : sProp 𝕄)) = _
  rw [h]
  exact pts_cut (ℓ := bLoc d L) fullShare f (Finset.disjoint_left.mpr fun x h h' => by rw [mem_bufWin] at h h'; omega)

/-- The slots' buffer, from its two slots at contents of their own. -/
theorem slots_join (f f' : Buf (Elt F) (bLoc d L)) : iprop(bPts d L (bufWin 0 0 400) f ∗ bPts d L (bufWin 1 0 400) f') ⊢ (iprop(∃ g, bPts d L Finset.univ g) : sProp 𝕄) := by
  iintro ⟨H0, H1⟩
  let g : Buf (Elt F) (bLoc d L) := fun x => if x ∈ bufWin 0 0 400 then f x else f' x
  iexists g
  rw [slots_cut]
  isplitl [H0]
  · iapply (Entails.of_eq (pointsTo_congr (ℓ := bLoc d L) (q := fullShare) (f := f) (g := g) (fun x hx => (if_pos hx).symm))); iexact H0
  · iapply (Entails.of_eq (pointsTo_congr (ℓ := bLoc d L) (q := fullShare) (f := f') (g := g) (fun x hx => (if_neg (fun h => by rw [mem_bufWin] at h hx; omega)).symm))); iexact H1

end Tile

end Cert.Proof.Edge

end
-- ==== Proof.Tile.lean ====
/-
  A tile's task, from what its launch hands it to what it brings back.
-/
module

public import proofs.«01_k».proof.Proof.Copies

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Task

variable [FloatOps F] (CT : Dev nD → S18x128.Idx → Elt F .f32) (AT : Dev nD → S640000.Idx → BitVec 32) (m : (ℓ : Loc nD τ sig) → Buf (Elt F) ℓ)
variable (d : Dev nD) (L : grid1.Coords)

/-- What tile `0` has put into the shared scratch before the barrier. -/
abbrev firstSh : sProp 𝕄 := if (jV L).val = 0 then shPts CT d (cV L) fullShare else iprop(emp)

/-- Before the barrier, what a tile's duties hand over: tile `0`'s, everyone's part of the table; the others', nothing. -/
theorem pays_intro : firstSh CT d L
    ⊢ (bigSep Finset.univ fun j : Fin (grid1.bound 1) => (bRd CT).payload (bcell d (cV L) (j.castLE hsub1)) 0 (jV L).val : sProp 𝕄) := by
  unfold firstSh
  by_cases h : (jV L).val = 0
  · rw [if_pos h]
    rw [show (bigSep Finset.univ fun j : Fin (grid1.bound 1) => (bRd CT).payload (bcell d (cV L) (j.castLE hsub1)) 0 (jV L).val)
        = bigSep (Finset.univ : Finset (Fin 16)) fun j => (shLoc d (cV L) ↦{pieceOf fullShare 16 (by decide) j} (CT d : Buf (Elt F) (shLoc d (cV L))) : sProp 𝕄) from
      bigSep_congr fun j _ => by
        show bPay CT (bcell d (cV L) (j.castLE hsub1)) (jV L).val = _
        unfold bPay; dsimp only; rw [if_pos h]; rfl]
    exact Entails.of_eq (pointsTo_piecesOf (ℓ := shLoc d (cV L)) Finset.univ (CT d : Buf (Elt F) (shLoc d (cV L))) (show 0 < 16 by decide) fullShare)
  · rw [if_neg h]
    rw [show (bigSep Finset.univ fun j : Fin (grid1.bound 1) => (bRd CT).payload (bcell d (cV L) (j.castLE hsub1)) 0 (jV L).val)
        = bigSep Finset.univ fun _ : Fin (grid1.bound 1) => (iprop(emp) : sProp 𝕄) from
      bigSep_congr fun j _ => by
        show bPay CT (bcell d (cV L) (j.castLE hsub1)) (jV L).val = _
        unfold bPay; dsimp only; rw [if_neg h], bigSep_emp']

/-- After it, what a tile's own round collected holds its part of the table. -/
theorem pays_elim : (bigSep ((bRd CT).duties (bcell d (cV L) (jV L)) 0 \ ∅) fun n => (bRd CT).payload (bcell d (cV L) (jV L)) 0 n)
    ⊢ (shPts CT d (cV L) (qs (jV L)) : sProp 𝕄) := by
  rw [Finset.sdiff_empty, bRd_duties₀]
  refine (bigSep_elim (i := (0 : ℕ)) (Finset.mem_image.mpr ⟨(⟨0, by decide⟩ : Fin τ.nSub), Finset.mem_univ _, rfl⟩)).trans ?_
  show bPay CT (bcell d (cV L) (jV L)) 0 ⊢ _
  unfold bPay; dsimp only
  rw [if_pos rfl]

/-- Tile `0`'s copy of the table into the shared scratch; nothing on the others. -/
theorem first_part (O : CellTallies nD τ sig (HIx 1)) (W : Waits sig (HIx 1)) (hO : ∀ g, O g none = 0) {α β : Type}
    (r : Prog (TpuEff nD τ sig (Elt F) Λ₀ (th d L).2) β) (tl : β → Prog (TpuEff nD τ sig (Elt F) Λ₀ (th d L).2) α) (Q : α → sProp 𝕄) (h1 h2 h3 h4 h5) (cond : BitVec 1)
    (hc : cond = 1#1 ↔ (jV L).val = 0) :
    iprop(levAts (K (F := F)).L (K (F := F)).lev ∗ goFirst CT d (cV L) (jV L) ∗ semVal (dcell d L cc1_scoped0.sem) 0 ∗ owes (th d L) O W
        ∗ (∀ W', ⌜∀ p ∈ W', p ∈ W ∨ p.2 = none⌝ -∗ tdFirst CT d (cV L) (jV L) ∗ firstSh CT d L ∗ semVal (dcell d L cc1_scoped0.sem) 0 ∗ owes (th d L) O W'
            -∗ wp frame (wpE (defs₀ (F := F)) 𝒱₀ (th d L) none) Set.univ (r >>= tl) Q))
      ⊢ wp frame (wpE (defs₀ (F := F)) 𝒱₀ (th d L) none) Set.univ
          ((if _ : cond = 1#1 then .op (.enqueueDma cV' (.here shV) (.dma cc1_scoped0.sem) h1 h2 h3) fun _ => .op (.waitDma2 cc1_scoped0.sem cV' shV h4 h5) fun _ => r
           else r) >>= tl) Q := by
  unfold goFirst tdFirst firstSh
  by_cases h : (jV L).val = 0
  · rw [if_pos h, if_pos h, if_pos h, dif_pos (hc.mpr h)]
    simp only [Prog.bind_op]
    iintro ⟨#Hlv, ⟨Hc, %fs, Hsh⟩, Hs, HO, HK⟩
    iapply (copy_wait d L cV' shV cc1_scoped0.sem 73728 (show S18x128.numel * 32 = 73728 by decide +kernel) (show S18x128.numel * 32 = 73728 by decide +kernel)
      (by decide) (qc (cV L)) (CT d : Buf (Elt F) ((cV').view.loc (th d L))) Finset.univ (fs : Buf (Elt F) ((shV).view.loc (th d L))) (Finset.subset_univ _) O W hO)
    rw [show (cV').view.set = Finset.univ from View.set_whole main_v0_scv]
    isplitr; · iexact Hlv
    isplitl [Hc]; · iexact Hc
    isplitl [Hsh]; · iexact Hsh
    isplitl [Hs]; · iexact Hs
    isplitl [HO]; · iexact HO
    iintro ⟨Hsh, Hc, Hs, HO⟩
    rw [show (shV).view.write (Elt F) fs ((cV').view.read (Elt F) (CT d : Buf (Elt F) ((cV').view.loc (th d L)))) Finset.univ = CT d from
      View.write_whole_univ cc1_scratch3 _ _]
    iapply HK $$ %(insert (SemLoc.dma cc1_scoped0.sem, none) W)
    · ipureintro; intro p hp
      rcases Finset.mem_insert.mp hp with rfl | h
      · exact Or.inr rfl
      · exact Or.inl h
    isplitl [Hc]; · iexact Hc
    isplitl [Hsh]; · iexact Hsh
    isplitl [Hs]; · iexact Hs
    iexact HO
  · rw [if_neg h, if_neg h, if_neg h, dif_neg (fun e => h (hc.mp e))]
    iintro ⟨#Hlv, Hc, Hs, HO, HK⟩
    iapply HK $$ %W
    · ipureintro; exact fun p hp => Or.inl hp
    isplitl [Hc]; · iexact Hc
    isplitr; · iempintro
    isplitl [Hs]; · iexact Hs
    iexact HO

/-- The two copies of the tile's attributes into its scratch. -/
theorem attrs_part (A : S640000.Idx → BitVec 32) (q : PosShare TreeShare) (f : Buf (Elt F) (tLoc d L)) (O : CellTallies nD τ sig (HIx 1)) (W : Waits sig (HIx 1)) (hO : ∀ g, O g none = 0) {α : Type}
    (kk : PUnit → Prog (TpuEff nD τ sig (Elt F) Λ₀ (th d L).2) α) (Q : α → sProp 𝕄) (h1 h2 h3 h4 h5 g1 g2 g3 g4 g5) :
    iprop(levAts (K (F := F)).L (K (F := F)).lev ∗ (aLoc d ↦{q} (A : Buf (Elt F) (aLoc d))) ∗ (tLoc d L ↦{fullShare} f)
        ∗ semVal (dcell d L cc1_scoped1.sem) 0 ∗ semVal (dcell d L cc1_scoped2.sem) 0 ∗ owes (th d L) O W
        ∗ (∀ W', ⌜∀ p ∈ W', p ∈ W ∨ p.2 = none⌝ -∗ (aLoc d ↦{q} (A : Buf (Elt F) (aLoc d))) ∗ tPts d L A (bL L)
            ∗ semVal (dcell d L cc1_scoped1.sem) 0 ∗ semVal (dcell d L cc1_scoped2.sem) 0 ∗ owes (th d L) O W'
            -∗ wp frame (wpE (defs₀ (F := F)) 𝒱₀ (th d L) none) Set.univ (kk ⟨⟩) Q))
      ⊢ wp frame (wpE (defs₀ (F := F)) 𝒱₀ (th d L) none) Set.univ
          (.op (.enqueueDma (srcA1 L) (.here dstA1) (.dma cc1_scoped1.sem) h1 h2 h3) fun _ => .op (.waitDma2 cc1_scoped1.sem (srcA1 L) dstA1 h4 h5) fun _ =>
            .op (.enqueueDma (srcA2 L) (.here dstA2) (.dma cc1_scoped2.sem) g1 g2 g3) fun _ => .op (.waitDma2 cc1_scoped2.sem (srcA2 L) dstA2 g4 g5) kk) Q := by
  have hcut : ∀ I : Finset (Idx (aLoc d)), ((aLoc d ↦{q} (A : Buf (Elt F) (aLoc d)) : sProp 𝕄))
      = iprop((aLoc d ↦[I]{q} (A : Buf (Elt F) (aLoc d))) ∗ aLoc d ↦[Finset.univ \ I]{q} (A : Buf (Elt F) (aLoc d))) := fun I => by
    rw [← pts_cut q _ Finset.disjoint_sdiff, Finset.union_sdiff_of_subset (Finset.subset_univ I)]
  iintro ⟨#Hlv, Ha, Ht, Hs1, Hs2, HO, HK⟩
  ihave Ha := (Entails.of_eq (hcut (srcA1 L).view.set)) $$ Ha
  icases Ha with ⟨Ha, Har⟩
  iapply (copy_wait d L (srcA1 L) dstA1 cc1_scoped1.sem 320000 (show S10000.numel * 32 = 320000 by decide +kernel) (show S10000.numel * 32 = 320000 by decide +kernel)
      (by decide) q (A : Buf (Elt F) ((srcA1 L).view.loc (th d L))) Finset.univ f (Finset.subset_univ _) O W hO)
  isplitr; · iexact Hlv
  isplitl [Ha]; · iexact Ha
  isplitl [Ht]; · iexact Ht
  isplitl [Hs1]; · iexact Hs1
  isplitl [HO]; · iexact HO
  iintro ⟨Ht, Ha, Hs1, HO⟩
  icombine Ha Har as Ha
  ihave Ha := (Entails.of_eq (hcut (srcA1 L).view.set).symm) $$ Ha
  ihave Ha := (Entails.of_eq (hcut (srcA2 L).view.set)) $$ Ha
  icases Ha with ⟨Ha, Har⟩
  iapply (copy_wait d L (srcA2 L) dstA2 cc1_scoped2.sem 320000 (show S10000.numel * 32 = 320000 by decide +kernel) (show S10000.numel * 32 = 320000 by decide +kernel)
      (by decide) q (A : Buf (Elt F) ((srcA2 L).view.loc (th d L))) Finset.univ _ (Finset.subset_univ _) O _ hO)
  isplitr; · iexact Hlv
  isplitl [Ha]; · iexact Ha
  isplitl [Ht]; · iexact Ht
  isplitl [Hs2]; · iexact Hs2
  isplitl [HO]; · iexact HO
  iintro ⟨Ht, Ha, Hs2, HO⟩
  icombine Ha Har as Ha
  ihave Ha := (Entails.of_eq (hcut (srcA2 L).view.set).symm) $$ Ha
  iapply HK $$ %(insert (SemLoc.dma cc1_scoped2.sem, none) (insert (SemLoc.dma cc1_scoped1.sem, none) W))
  · ipureintro; intro p hp
    rcases Finset.mem_insert.mp hp with rfl | h
    · exact Or.inr rfl
    rcases Finset.mem_insert.mp h with rfl | h
    · exact Or.inr rfl
    · exact Or.inl h
  isplitl [Ha]; · iexact Ha
  isplitl [Ht]
  · iapply (Entails.of_eq (pointsTo_congr (ℓ := tLoc d L) (q := fullShare) (fun x _ => attrs_eq d L A f x))); iexact Ht
  isplitl [Hs1]; · iexact Hs1
  isplitl [Hs2]; · iexact Hs2
  iexact HO

set_option maxHeartbeats 1000000 in
/-- The task on the tile at grid coordinates `L`. -/
theorem tile_body (hA : ∀ d x, (AT d x).toNat < 3) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit CT d (cV L) (jV L)
        ∗ goT CT AT m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_body L cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2)
          fun _ => iprop(tdT CT AT d (cV L) (jV L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc1__sc_body_eq_skeleton]; unfold cc1__sc_body_skel
  rw [k1_part1_eq_skeleton]; unfold k1_part1_skel
  rw [(K (F := F)).scopedBufs_V hF d (cV L) (jV L), SparseCore.Cfg.scopedSems0_V (Val := Elt F) d (cV L) (jV L), ownSems0_tile, ownBufs_tile]
  unfold bkit goT tdT
  simp only [Prog.lift, Prog.bind_op, Prog.bind_ret, Prog.pure_eq_ret]
  iintro ⟨#Hlv, ⟨⟨%κ, #Hinv⟩, Htoks, #Hrch, Hat, Hcred⟩, ⟨Ha, Ho, Hfirst⟩, ⟨⟨%ft, Ht⟩, ⟨%fi, Hi⟩, ⟨%fb, Hb⟩, Hbufs⟩, ⟨Hg, Hw0, Hw1, Hs0, Hs1, Hs2, Hsems⟩, HO⟩
  have hO' : ∀ g, (O + oxV d (cV L)) g none = 0 := fun g => by rw [Pi.add_apply, Finsupp.add_apply, hO g, oxV_none]
  iapply (first_part CT d L (O + oxV d (cV L)) W hO' _ _ _ _ _ _ _ _ _ (first_iff (L 1)))
  isplitr; · iexact Hlv
  isplitl [Hfirst]; · iexact Hfirst
  isplitl [Hs0]; · iexact Hs0
  isplitl [HO]; · iexact HO
  iintro %W1 %hW1 ⟨Hfirst, Hsh, Hs0, HO⟩
  simp only [Prog.bind_op]
  iapply (attrs_part d L (AT d) (qt (cV L) (jV L)) ft (O + oxV d (cV L)) W1 hO')
  isplitr; · iexact Hlv
  isplitl [Ha]; · iexact Ha
  isplitl [Ht]; · iexact Ht
  isplitl [Hs1]; · iexact Hs1
  isplitl [Hs2]; · iexact Hs2
  isplitl [HO]; · iexact HO
  iintro %W2 %hW2 ⟨Ha, Ht, Hs1, Hs2, HO⟩
  simp only [bind_assoc]
  ihave Hpays := (pays_intro CT d L) $$ Hsh
  iapply (SparseCore.wp_subcoreBarrier 𝒱₀ none EB (bRd CT) d (sc := cV L) (i := jV L) sc_bar0 (grid1.bound 1) hsub1 (L 1) rfl κ (fun _ => 0) (jV L).val
      (fun j => bRd_mem₀ CT d _ _ _) (fun _ => rfl) (bRd_expect CT d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd CT) (g := bcell d (cV L) (jV L)) (Set.mem_univ (κ _)) (fun h => h) (bRd_duties_succ CT _)) $$ [Hat] with Hbar
  · isplitr
    · iapply (SparseCore.ent (bigSep_elim (Φ := fun j : Fin (grid1.bound 1) =>
        (cellInv EB (bRd CT) (κ (bcell d (cV L) (j.castLE hsub1))) (bcell d (cV L) (j.castLE hsub1)) : sProp 𝕄)) (Finset.mem_univ (L 1)))); iexact Hinv
    · iexact Hat
  ihave Hsh := (pays_elim CT d L) $$ Hgot
  -- the chunks
  ihave Hb := (Entails.of_eq (slots_cut d L fb)) $$ Hb
  icases Hb with ⟨Hb0, Hb1⟩
  iapply (t1_loop d L (CT d) (A := AT d) (m (oLoc d)) (hA d) (qs (jV L)) O (insert (SemLoc.reg sc_bar0, some 0) W2) hO)
  isplitl [Ht Hi Hsh Hg Hw0 Hw1 Hb0 Hb1 Ho HO]
  · unfold outerInv
    isplitr; · iexact Hlv
    isplitl [Ht]; · iexact Ht
    isplitl [Hi]; · iexists fi; iexact Hi
    isplitl [Hsh]; · iexact Hsh
    isplitl [Hg]; · iexact Hg
    isplitl [Hb0 Hw0]
    · rw [slot_free d L (CT d) (A := AT d) cc1_scratch5.sem (show ¬ 2 ≤ 0 by decide) rfl]
      unfold free
      isplitl [Hb0]; · iexists fb; iexact Hb0
      iexact Hw0
    isplitl [Hb1 Hw1]
    · rw [show slotSt d L (CT d) (AT d) cc1_scratch6.sem 1 0 = free d L cc1_scratch6.sem 1 from rfl]
      unfold free
      isplitl [Hb1]; · iexists fb; iexact Hb1
      iexact Hw1
    isplitr
    · rw [show rowsOf (bL L) (400 * (0 - 2)) = ∅ from Finset.eq_empty_of_forall_notMem fun x hx => by rw [mem_rowsOf] at hx; omega]
      unfold oPts; rw [pointsTo_empty]; iempintro
    isplitl [Ho]; · iexact Ho
    iexists (insert (SemLoc.reg sc_bar0, some 0) W2)
    isplitr
    · ipureintro; exact fun p hp => Or.inl hp
    iexact HO
  iintro H
  simp only [Prog.bind_ret]
  iapply (out_waits d L (CT d) (A := AT d) (m (oLoc d)) (qs (jV L)) O (insert (SemLoc.reg sc_bar0, some 0) W2) hO)
  isplitl [H]; · iexact H
  iintro ⟨Ht, ⟨%fi', Hi⟩, Hsh, Hg, Hf0, Hf1, Ho, ⟨%W3, %hW3, HO⟩⟩
  rw [wp_ret]; imodintro
  unfold free
  icases Hf0 with ⟨⟨%fb0, Hb0⟩, Hw0⟩
  icases Hf1 with ⟨⟨%fb1, Hb1⟩, Hw1⟩
  icombine Hb0 Hb1 as Hb
  ihave Hb := (slots_join d L fb0 fb1) $$ Hb
  isplitl [Ha Ho Hfirst Hsh Hbar]
  · isplitr [Hbar]; swap; · iexact Hbar
    isplitl [Ha]; · iexact Ha
    isplitl [Ho]; · iexact Ho
    isplitl [Hfirst]; · iexact Hfirst
    iexact Hsh
  isplitl [Ht Hi Hb Hbufs]
  · isplitl [Ht]; · iexists _; iexact Ht
    isplitl [Hi]; · iexists _; iexact Hi
    isplitl [Hb]; · iexact Hb
    iexact Hbufs
  isplitl [Hg Hw0 Hw1 Hs0 Hs1 Hs2 Hsems]
  · isplitl [Hg]; · iexact Hg
    isplitl [Hw0]; · iexact Hw0
    isplitl [Hw1]; · iexact Hw1
    isplitl [Hs0]; · iexact Hs0
    isplitl [Hs1]; · iexact Hs1
    isplitl [Hs2]; · iexact Hs2
    iexact Hsems
  iexists W3; isplitr
  swap; · iexact HO
  ipureintro; intro p hp
  rcases hW3 p hp with h | h
  · rcases Finset.mem_insert.mp h with h | h
    · exact .inr (.inr (h ▸ rfl))
    rcases hW2 p h with h | h
    · rcases hW1 p h with h | h
      · exact .inl h
      · exact .inr (.inl h)
    · exact .inr (.inl h)
  · exact .inr (.inl h)

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

/-- What a tile runs: the kernel's body, at the tile's coordinates, on its memrefs and semaphores. -/
theorem defs₀_vector (c : Fin τ.nSC) (s : Fin τ.nSub) :
    defs₀ (F := F) (.scVector c s) 1 ()
      = SparseCore.onTile hcore1 hsub1 (fun c s => cc1__sc_body (coordsV c s)
          cV' (Memref.isWhole_whole _) aV' (Memref.isWhole_whole _) oV' (Memref.isWhole_whole _) atV (Memref.isWhole_whole _)
            ixV (Memref.isWhole_whole _) bfV (Memref.isWhole_whole _) shV (Memref.isWhole_whole _) cc1_scratch4 cc1_scratch5 cc1_scratch6
            cc1_scoped0 cc1_scoped1 cc1_scoped2) ⟨⟩ c s := rfl

set_option maxRecDepth 16384 in
/-- Every tile meets the call's demand on it: it ends with its rows of the result written. -/
theorem tileObl (hA : ∀ d x, (AT d x).toNat < 3) (hF : (K (F := F)).Facts) : (K (F := F)).TileObl (D (F := F)) 𝒱 (P CT AT m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body CT AT m d (coordsV ⟨_, hci.1⟩ ⟨_, hci.2⟩) hA hF O W hO hOlev

end Task

end Cert.Proof.Edge

end
-- ==== Proof.Launch.lean ====
/-
  How the call deals its operands to the tiles and gathers their results, and the launch element of the ghost state.
-/
module

public import proofs.«01_k».proof.Proof.Tile
public import proofs.«01_k».proof.Proof.Gen.KernelIdeal.Launch

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Launch

variable [FloatOps F] (CT : Dev nD → S18x128.Idx → Elt F .f32) (AT : Dev nD → S640000.Idx → BitVec 32) (m : (ℓ : Loc nD τ sig) → Buf (Elt F) ℓ)

/-! ## A SparseCore's operands split into its tasks', and the results gathered -/

/-- A resource per subcore of the call is one per subcore of the SparseCore. -/
theorem bigSep_subs (Φ : Fin τ.nSub → sProp 𝕄) :
    (bigSep Finset.univ fun i : Fin ((K (F := F)).nSub 0) => Φ (subOf (F := F) i)) = bigSep Finset.univ Φ :=
  bigSep_congr fun _ _ => congrArg Φ (Fin.ext rfl)

/-- A resource only tile `0` has is that one resource. -/
theorem bigSep_first (R : sProp 𝕄) : (bigSep Finset.univ fun i : Fin τ.nSub => if i.val = 0 then R else iprop(emp)) = R := by
  rw [SparseCore.bigSep_erase' (Finset.mem_univ (⟨0, by decide⟩ : Fin τ.nSub)), if_pos rfl,
    bigSep_congr (Ψ := fun _ : Fin τ.nSub => (iprop(emp) : sProp 𝕄)) fun i hi =>
      if_neg fun h => (Finset.ne_of_mem_erase hi) (Fin.ext h), bigSep_emp']
  exact BI.equiv_iff.mp BI.sep_emp

/-- A buffer held at a share is sixteen parts of that share, one for each tile. -/
theorem pts_tiles {ℓ : Loc nD τ sig} (f : Buf (Elt F) ℓ) (q : PosShare TreeShare) :
    (ℓ ↦{q} f : sProp 𝕄) = bigSep Finset.univ fun i : Fin τ.nSub => ℓ ↦{pieceOf q 16 (by decide) (Fin.cast nSub_eq i)} f :=
  pointsTo_piecesOf Finset.univ f (show 0 < 16 by decide) q

/-- The attributes' part of a SparseCore is its tiles' parts. -/
theorem aPts_tiles (d : Dev nD) (c : Fin τ.nSC) : (aPts AT d (qc c) : sProp 𝕄) = bigSep Finset.univ fun i : Fin τ.nSub => aPts AT d (qt c i) := by
  have h := fun f => pts_tiles (F := F) (ℓ := aLoc d) f (qc c)
  exact h (AT d)

/-- The shared scratch is its tiles' parts. -/
theorem shPts_tiles (d : Dev nD) (c : Fin τ.nSC) : (shPts CT d c fullShare : sProp 𝕄) = bigSep Finset.univ fun i : Fin τ.nSub => shPts CT d c (qs i) := by
  exact pointsTo_piecesOf (ℓ := shLoc d c) Finset.univ (CT d : Buf (Elt F) (shLoc d c)) (show 0 < 16 by decide) fullShare

/-- The shared scratch is one of the sequencer's buffers. -/
theorem ownBufs_seq (d : Dev nD) (c : Fin τ.nSC) :
    (ownBufs (S d c) : sProp 𝕄)
      = iprop((∃ f : Buf (Elt F) (shLoc d c), shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- What a SparseCore is handed goes to its tasks, and what they bring back is what it hands back. -/
theorem vecSplit : (K (F := F)).VecSplit (P CT AT m) 0 := by
  intro d c
  show iprop(iprop(cPts CT d (qc (coreOf (F := F) c)) ∗ aPts AT d (qc (coreOf (F := F) c)) ∗ oCore d (coreOf (F := F) c) (m (oLoc d))) ∗ ownBufs (S d (coreOf (F := F) c)))
    ⊢ |={Set.univ}=> iprop((bigSep Finset.univ fun i : Fin ((K (F := F)).nSub 0) => goT CT AT m d (coreOf (F := F) c) (subOf (F := F) i))
      ∗ ((bigSep Finset.univ fun i : Fin ((K (F := F)).nSub 0) => tdT CT AT d (coreOf (F := F) c) (subOf (F := F) i))
        -∗ iprop(iprop((cPts CT d (qc (coreOf (F := F) c)) ∗ aPts AT d (qc (coreOf (F := F) c)) ∗ oCore d (coreOf (F := F) c) (outV CT AT d)) ∗ bars d (coreOf (F := F) c))
          ∗ ownBufs (S d (coreOf (F := F) c)))))
  generalize coreOf (F := F) c = c'
  rw [bigSep_subs (F := F) (fun i => goT CT AT m d c' i), bigSep_subs (F := F) (fun i => tdT CT AT d c' i)]
  unfold goT tdT goFirst tdFirst oCore bars
  rw [bigSep_sep', bigSep_sep', bigSep_sep', bigSep_sep', bigSep_sep', bigSep_sep', bigSep_first, bigSep_first, ← aPts_tiles, ← shPts_tiles, ownBufs_seq]
  iintro ⟨⟨Hc, Ha, Ho⟩, Hsh, Hrest⟩
  imodintro
  isplitl [Hc Ha Ho Hsh]
  · isplitl [Ha]; · iexact Ha
    isplitl [Ho]; · iexact Ho
    isplitl [Hc] <;> iassumption
  iintro ⟨⟨Ha, Ho, Hc, Hsh⟩, Hb⟩
  isplitl [Ha Ho Hc Hb]
  · isplitr [Hb]; swap; · iexact Hb
    isplitl [Hc]; · iexact Hc
    isplitl [Ha] <;> iassumption
  isplitl [Hsh]; · iexists _; iexact Hsh
  iexact Hrest

/-! ## The launch element -/

/-- The tiles. -/
abbrev Tl : Type := Dev nD × Fin τ.nSC × Fin τ.nSub
/-- A tile's barrier cell. -/
abbrev tcell (x : Tl) : GSem nD τ sig := bcell x.1 x.2.1 x.2.2
/-- Every barrier cell: of the free semaphores, the ones taken at the launch. -/
def bCells : Finset (GSem nD τ sig) := (Finset.univ : Finset Tl).image tcell
/-- A token of every tile in every tile of its SparseCore's cell. -/
def bToks : Finset (GSem nD τ sig × ℕ × ℕ) :=
  (Finset.univ : Finset (Tl × Fin (grid1.bound 1))).image fun x => (bcell x.1.1 x.1.2.1 (x.2.castLE hsub1), 0, x.1.2.2.val)
/-- The pipeline's part of the launch element. -/
abbrev uP : UP := Rounds.initOf (Pipeline.cells (nD := nD) (τ := τ) cfgs cellOf_inj) (Pipeline.launchToks (nD := nD) (τ := τ) cfgs cellOf_inj)
/-- The launch element: the handshakes' rounds, the barrier's, the pipeline's. -/
def u₀ : UU := (Rounds.initOf (K (F := F)).hsCells (K (F := F)).hsToks, (Rounds.initOf bCells bToks, (uP, 1)))
/-- What @main starts from: the pipeline's cells' state and its transfers' tokens. -/
abbrev G (d : Dev nD) : sProp 𝕄 := iprop(Pipeline.cellsGhost cfgs EP 0 d ∗ Pipeline.toksInit cfgs EP 0 d)

/-- Different tiles have different barrier cells. -/
theorem tcell_injective : Function.Injective (tcell : Tl → GSem nD τ sig) := fun a b e => by
  obtain ⟨h1, h2⟩ := Prod.mk.inj (Prod.mk.inj e).1; obtain ⟨h3, h4⟩ := Proc.scVector.inj h2
  exact Prod.ext h1 (Prod.ext h3 h4)

/-- The launch element is its three parts. -/
theorem ownU_split (a : UH) (b : UB) (c : UP) : (ownU ((a, (b, (c, 1))) : UU) : sProp 𝕄) ⊢ iprop(BI.own (EH a) ∗ BI.own (EB b) ∗ BI.own (EP c)) := by
  have h1 : (ownU ((a, (b, (c, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (c, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, (c, (1 : Counters))) : UB × (UP × Counters)))))
  have h2 : (BI.own ((uEmb (nD := nD) (sig := sig) (Ix := HIx 1) (Val := Elt F) (Name := ℕ) (U := UU) (Lvl := ℕ)).toEmb ((1, (b, (c, 1))) : UU)) : sProp 𝕄)
      ⊢ iprop(BI.own (EB b) ∗ BI.own (EP c)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op ((c, (1 : Counters)) : UP × Counters)))))
  exact h1.trans (sep_mono_right h2)

/-- Every barrier semaphore at zero, out of the free semaphores. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => tcell_injective e)]
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The barrier cells' invariants, allocated at once. -/
theorem invs_b : iprop((bigSep bCells fun g => (semVal g 0 : sProp 𝕄)) ∗ bigSep bCells fun g => roundState EB (bRd CT) g 0)
    ⊢ |={Set.univ}=> iprop(∃ κ : GSem nD τ sig → ℕ, bigSep bCells fun g => cellInv EB (bRd CT) (κ g) g) := by
  refine (Rounds.bodies_intro EB (bRd CT) bCells).trans ((inv_alloc_family bCells (Rounds.body EB (bRd CT)) ∅ (E := Set.univ)).trans ?_)
  iintro H
  imod H with ⟨%κ, -, Hinv⟩
  imodintro; iexists κ; iexact Hinv

/-- A unit many times over. -/
theorem units_sum (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

/-- The credit for the barrier's debts: each tile the sixteen units of its own cell. -/
theorem creds_b : ((P CT AT m).oxCred : sProp 𝕄) ⊢ bigSep Finset.univ fun x : Tl => cred (tallyAt (tcell x) (some 0) (grid1.bound 1)) := by
  unfold SparseCore.Cfg.Pay.oxCred
  rw [SparseCore.Cfg.bigSep_threads (fun thr : Thread nD τ => (cred ((P CT AT m).oxFrom 0 thr) : sProp 𝕄))]
  refine sep_elim_right.trans (sep_elim_right.trans ?_)
  rw [bigSep_univ_prod, bigSep_univ_prod (fun x : Tl => (cred (tallyAt (tcell x) (some 0) (grid1.bound 1)) : sProp 𝕄))]
  refine bigSep_mono fun d _ => ?_
  rw [bigSep_univ_prod, bigSep_univ_prod (fun ci : Fin τ.nSC × Fin τ.nSub => (cred (tallyAt (tcell (d, ci)) (some 0) (grid1.bound 1)) : sProp 𝕄))]
  refine bigSep_mono fun c _ => ?_
  have hox : ∀ i, (P CT AT m).oxFrom 0 (V d c i) = oxV d c := fun i => by
    rw [show (0 : ℕ) = (0 : Fin 1).val from rfl, (P CT AT m).oxFrom_step, (P CT AT m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, units_sum]; rfl

/-- A persistent resource goes to each member. -/
theorem bigSep_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  have hR : R ⊢ bigSep s fun _ => R := BI.bigSep_intro_persistent fun _ _ => BI.Entails.refl R
  refine (sep_mono_left hR).trans ?_
  rw [← bigSep_sep']
  exact bigSep_mono h

/-- The barrier's tokens, dealt tile by tile: each tile's on every cell of its SparseCore. -/
theorem toks_b : (bigSep bToks fun x => (dutyTok EB x.1 x.2.1 x.2.2 : sProp 𝕄))
    = bigSep Finset.univ fun x : Tl => bigSep Finset.univ fun j : Fin (grid1.bound 1) => dutyTok EB (bcell x.1 x.2.1 (j.castLE hsub1)) 0 x.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

/-- Whatever is said of every barrier cell is said tile by tile. -/
theorem cells_b (Φ : GSem nD τ sig → sProp 𝕄) : bigSep bCells Φ = bigSep Finset.univ fun x : Tl => Φ (tcell x) := by
  unfold bCells; exact SparseCore.bigSep_image_of_injOn (fun a _ b _ e => tcell_injective e) Φ

/-- What every tile is handed alike: every barrier cell's invariant, and that each has reached round 0. -/
abbrev alike : sProp 𝕄 :=
  iprop((∃ κ : GSem nD τ sig → ℕ, bigSep Finset.univ fun x : Tl => cellInv EB (bRd CT) (κ (tcell x)) (tcell x))
    ∗ bigSep Finset.univ fun x : Tl => reached EB (tcell x) 0)
/-- What each tile is handed of its own: its position, its tokens, its credit. -/
abbrev own1 (x : Tl) : sProp 𝕄 :=
  iprop(atPos EB (tcell x) 0 ∅ 0
    ∗ (bigSep Finset.univ fun j : Fin (grid1.bound 1) => dutyTok EB (bcell x.1 x.2.1 (j.castLE hsub1)) 0 x.2.2.val)
    ∗ cred (tallyAt (tcell x) (some 0) (grid1.bound 1)))

/-- One tile's barrier kit. -/
theorem bkit_intro (x : Tl) : iprop(alike CT ∗ own1 x) ⊢ (bkit CT x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (BI.bigSep_intro_persistent (S := (Finset.univ : Finset (Fin (grid1.bound 1))))
      (R := bigSep Finset.univ fun x : Tl => cellInv EB (bRd CT) (κ (tcell x)) (tcell x)) fun j _ =>
        bigSep_elim (Φ := fun x : Tl => (cellInv EB (bRd CT) (κ (tcell x)) (tcell x) : sProp 𝕄)) (Finset.mem_univ ((d, c, j.castLE hsub1) : Tl))))
    iexact Hinv
  isplitl [Htok]; · iexact Htok
  isplitr
  · iapply (SparseCore.ent (BI.bigSep_intro_persistent (S := (Finset.univ : Finset (Fin (grid1.bound 1))))
      (R := bigSep Finset.univ fun x : Tl => reached EB (tcell x) 0) fun j _ =>
        bigSep_elim (Φ := fun x : Tl => (reached EB (tcell x) 0 : sProp 𝕄)) (Finset.mem_univ ((d, c, j.castLE hsub1) : Tl))))
    iexact Hr
  isplitl [Hat]; · iexact Hat
  iexact Hcred

/-- The call asks nothing more of the TensorCore's thread. -/
theorem Px_T (d : Dev nD) : (bigSep Finset.univ fun q : Fin 1 => (P CT AT m).x q (SparseCore.T d)) = iprop(emp) :=
  bigSep_univ_of_subsingleton (0 : Fin 1)
/-- Nor of a SparseCore's scalar thread. -/
theorem Px_S (d : Dev nD) (c : Fin τ.nSC) : (bigSep Finset.univ fun q : Fin 1 => (P CT AT m).x q (S d c)) = iprop(emp) :=
  bigSep_univ_of_subsingleton (0 : Fin 1)
/-- A tile brings its barrier kit to the call. -/
theorem Px_V (d : Dev nD) (c : Fin τ.nSC) (i : Fin τ.nSub) : (bigSep Finset.univ fun q : Fin 1 => (P CT AT m).x q (V d c i)) = bkit CT d c i :=
  bigSep_univ_of_subsingleton (0 : Fin 1)

/-- Each tile its kit. -/
theorem kits_deal :
    iprop(alike CT ∗ (bigSep Finset.univ fun x : Tl => atPos EB (tcell x) 0 ∅ 0)
        ∗ (bigSep Finset.univ fun x : Tl => bigSep Finset.univ fun j : Fin (grid1.bound 1) => dutyTok EB (bcell x.1 x.2.1 (j.castLE hsub1)) 0 x.2.2.val)
        ∗ (bigSep Finset.univ fun x : Tl => cred (tallyAt (tcell x) (some 0) (grid1.bound 1))))
      ⊢ (bigSep Finset.univ fun thr : Thread nD τ => bigSep Finset.univ fun q : Fin 1 => (P CT AT m).x q thr : sProp 𝕄) := by
  rw [SparseCore.Cfg.bigSep_threads (fun thr : Thread nD τ => bigSep Finset.univ fun q : Fin 1 => (P CT AT m).x q thr)]
  simp only [Px_T, Px_S, Px_V, bigSep_emp']
  iintro ⟨#Hsh, Hat, Htok, Hcred⟩
  isplitr; · iempintro
  isplitr; · iempintro
  iapply (bigSep_frame (R := alike CT) (s := (Finset.univ : Finset Tl)) (Φ := own1) (Ψ := fun x => bkit CT x.1 x.2.1 x.2.2) fun x _ => bkit_intro CT x)
  isplitr; · iexact Hsh
  unfold own1
  rw [bigSep_sep', bigSep_sep']
  isplitl [Hat]; · iexact Hat
  isplitl [Htok] <;> iassumption

/-- The pipeline's ghost state, device by device. -/
theorem ghost_deal : BI.own (EP uP) ⊢ (iprop(|==> bigSep Finset.univ fun d : Dev nD => G d) : sProp 𝕄) := by
  refine (Pipeline.fund_ghost cfgs EP cellOf_inj).trans (BI.bupd_mono ?_)
  rw [← bigSep_sep']
  refine bigSep_mono fun d _ => ?_
  unfold G
  rw [bigSep_univ_of_subsingleton (0 : Fin 1), bigSep_univ_of_subsingleton (0 : Fin 1)]
  exact BI.Entails.refl _

/-- What the launch element makes: the handshakes' rounds, what @main starts from, every tile's barrier kit. -/
theorem hu₀ : iprop(ownU (u₀ (F := F)) ∗ (P CT AT m).oxCred ∗ (K (F := F)).freeOn (· ∈ bCells))
    ⊢ |={Set.univ}=> iprop(BI.own (EH (Rounds.initOf (K (F := F)).hsCells (K (F := F)).hsToks)) ∗ (bigSep Finset.univ fun d : Dev nD => G d)
        ∗ (bigSep Finset.univ fun thr : Thread nD τ => bigSep Finset.univ fun q : Fin 1 => (P CT AT m).x q thr) : sProp 𝕄) := by
  unfold u₀
  iintro ⟨Hu, Hcred, Hfree⟩
  ihave H := (ownU_split _ _ _) $$ Hu
  icases H with ⟨HH, HB, HP⟩
  imod (Rounds.fund EB (bRd CT) bCells bToks) $$ HB with ⟨Hst, #Hr, Hat, Htok⟩
  imod (ghost_deal (F := F)) $$ HP with HG
  ihave Hsems := (sems_b (F := F)) $$ Hfree
  imod (invs_b CT) $$ [Hsems Hst] with ⟨%κ, #Hinv⟩
  · isplitl [Hsems] <;> iassumption
  ihave Hcred' := (creds_b CT AT m) $$ Hcred
  ihave Hinv' := (Entails.of_eq (cells_b (F := F) fun g => cellInv EB (bRd CT) (κ g) g)) $$ Hinv
  ihave Hr' := (Entails.of_eq (cells_b (F := F) fun g => reached EB g 0)) $$ Hr
  ihave Hat' := (Entails.of_eq (cells_b (F := F) fun g => atPos EB g 0 ∅ 0)) $$ Hat
  ihave Htok' := (Entails.of_eq (toks_b (F := F))) $$ Htok
  imodintro
  isplitl [HH]; · iexact HH
  isplitl [HG]; · iexact HG
  iapply (kits_deal CT AT m)
  isplitr
  · isplitl; · iexists κ; iexact Hinv'
    iexact Hr'
  isplitl [Hat']; · iexact Hat'
  isplitl [Htok']; · iexact Htok'
  iexact Hcred'

end Launch

end Cert.Proof.Edge

end
-- ==== Proof.Region.lean ====
/-
  The TensorCore kernel that makes the table of sums: what it leaves, and its region of @main.
-/
module

public import proofs.«01_k».proof.Proof.Launch
public import proofs.«01_k».proof.Proof.Gen.KernelIdeal.Points
public import Idealize.ShloMosaic.Lib.Pipeline.RegionsLoop

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Region

variable [FloatOps F]

/-- A staging buffer's contents, and it held whole. -/
abbrev SBuf (d : Dev nD) {sp : Space} {S : Shape} {e : EltTy} (M : Memref sig .tc sp S e) : Type := Buf (Elt F) (M.view.loc (SparseCore.T d : Thread nD τ))
abbrev sPts (d : Dev nD) {sp : Space} {S : Shape} {e : EltTy} (M : Memref sig .tc sp S e) (f : SBuf (F := F) d M) : sProp 𝕄 :=
  M.view.loc (SparseCore.T d : Thread nD τ) ↦{fullShare} f

set_option maxHeartbeats 4000000 in
/-- What the kernel leaves in the table's staging buffer, from the two given tables', and that it does. -/
def comboRun (d : Dev nD) (M0 : Memref sig .tc .vmem S6x128 .f32) (h0 : M0.IsWhole) (M1 : Memref sig .tc .vmem S3x128 .f32) (h1 : M1.IsWhole)
    (M2 : Memref sig .tc .vmem S18x128 .f32) (h2 : M2.IsWhole) (f0 : SBuf (F := F) d M0) (f1 : SBuf (F := F) d M1) :
    { W : SBuf (F := F) d M2 // ∀ (f2 : SBuf (F := F) d M2) (E : Set ℕ) (Q : PUnit → sProp 𝕄),
        iprop(sPts d M0 f0 ∗ sPts d M1 f1 ∗ sPts d M2 f2 ∗ (iprop(sPts d M0 f0 ∗ sPts d M1 f1 ∗ sPts d M2 W) -∗ Q ⟨⟩))
          ⊢ wp frame (wpE (defs₀ (F := F)) 𝒱₀ (SparseCore.T d) none) E (cc0__combo_body M0 h0 M1 h1 M2 h2) Q } := by
  refine ⟨?_, fun f2 E Q => ?run⟩
  case run =>
    unfold cc0__combo_body k0_part1 k0_part2
    iintro ⟨H0, H1, H2, Hk⟩
    sl_exec!
    sl_step
    iapply Hk
    isplitl [H0]; · iexact H0
    isplitl [H1]; · iexact H1
    iexact H2

variable (V : (d : Dev nD) → (b : Ref sig .tc) → Buf (Elt F) ((d.tc : Thread nD τ).loc b))

/-- The given tables' blocks as they are staged. -/
abbrev stgA (d : Dev nD) : (cfg0.win 0).block.Idx → Elt F (cfg0.win 0).elt := ((cfg0.win 0).blk t0_0).view.read (Elt F) (V d main_arg1)
abbrev stgB (d : Dev nD) : (cfg0.win 1).block.Idx → Elt F (cfg0.win 1).elt := ((cfg0.win 1).blk t0_0).view.read (Elt F) (V d main_arg2)

/-- The kernel's run on those. -/
abbrev kRun (d : Dev nD) := comboRun (F := F) d (stage0_0 0) (hstage0_0 0) (stage0_1 0) (hstage0_1 0) (stage0_2 0) (hstage0_2 0) (stgA V d) (stgB V d)

/-- The region's data: the arrays as found, what the kernel leaves in each staging buffer, what the TensorCore owes the
    SparseCores throughout. -/
def dat (d : Dev nD) : Pipeline.Dat τ (Elt F) (HIx 1) ℕ UU ℕ cfg0 d where
  A w := V d (Pipeline.arrRef spec0 w)
  after w _ := match w with
    | ⟨0, _⟩ => stgA V d
    | ⟨1, _⟩ => stgB V d
    | ⟨2, _⟩ => (kRun V d).1
  Φ _ := iprop(emp)
  q _ := fullShare
  owed _ := (K (F := F)).Otc d 0
  recorded _ := {p | (K (F := F)).lev ((SparseCore.T d : Thread nD τ), p.1) p.2 ≤ 0}

abbrev adm : (p : Fin 1) → (pcfgs (F := F) p).Adm := fun p => (cfgs p).toPCfg_adm
abbrev dats : (p : Fin 1) → (d : Dev nD) → Pipeline.Dat τ (Elt F) (HIx 1) ℕ UU ℕ (Pipeline.pin (pcfgs (F := F)) adm p) d := fun _ d => dat V d

/-- The kernel finds the first table in its first window. -/
theorem before0 (d : Dev nD) (x : (cfg0.win 0).block.Idx → Elt F (cfg0.win 0).elt) : (dat V d).before 0 t0_0 x = stgA V d := by
  unfold Pipeline.Dat.before; rw [if_pos (fetch0_0 t0_0)]; rfl
/-- The kernel finds the second table in its second window. -/
theorem before1 (d : Dev nD) (x : (cfg0.win 1).block.Idx → Elt F (cfg0.win 1).elt) : (dat V d).before 1 t0_0 x = stgB V d := by
  unfold Pipeline.Dat.before; rw [if_pos (fetch0_1 t0_0)]; rfl

/-- The kernel meets the pipeline's demand on it. -/
theorem body_ok (d : Dev nD) : Pipeline.BodyObligation (dat V d) (defs₀ (F := F)) 𝒱₀ (none : HIx 1) Set.univ := fun t => by
  obtain rfl := fin_N0 t
  rw [bigSep_W0, bigSep_W0]
  simp only [owns_whole_eq]
  rw [show (dat V d).Φ t0_0.castSucc = iprop(emp) from rfl, show (dat V d).Φ t0_0.succ = iprop(emp) from rfl,
    show (dat V d).owesAt (none : HIx 1) t0_0.succ = (dat V d).owesAt (none : HIx 1) t0_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0
  subst hf1
  iapply ((kRun V d).2 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The table of sums, as the region leaves it. -/
def combo (d : Dev nD) : Buf (Elt F) ((d.tc : Thread nD τ).loc main_v0) := (dat V d).arrAt 2 cfg0.N
/-- The buffers after the region. -/
def Va (d : Dev nD) (b : Ref sig .tc) : Buf (Elt F) ((d.tc : Thread nD τ).loc b) := Function.update (V d) main_v0 (combo V d) b

/-- After the region its result's buffer holds the table of sums. -/
theorem Va_v0 (d : Dev nD) : Va V d main_v0 = combo V d := Function.update_self _ _ _
/-- The region leaves every other buffer as it was. -/
theorem Va_ne (d : Dev nD) (b : Ref sig .tc) (h : b ≠ main_v0) : Va V d b = V d b := Function.update_of_ne h _ _

/-- The TensorCore's debts before the call, and its waits so far. -/
abbrev tcOwes (d : Dev nD) : sProp 𝕄 :=
  iprop(∃ W, ⌜(K (F := F)).WBelow (SparseCore.T d : Thread nD τ) W 0⌝ ∗ owes (SparseCore.T d : Thread nD τ) ((K (F := F)).Otc d 0) W)

/-- Before the call the TensorCore owes nothing under the index of copies. -/
theorem Otc_none (d : Dev nD) (g : GSem nD τ sig) : (K (F := F)).Otc (N := 1) d 0 g none = 0 := by
  by_contra h
  have := SparseCore.Cfg.lev_of_Otc_pos (K := K (F := F)) (N := 1) (Nat.pos_of_ne_zero h)
  rw [SparseCore.Cfg.lev_none] at this
  omega

/-- The region of @main: from every buffer as found to every buffer with the table of sums made. -/
def reg : Pipeline.RegionSeg (pcfgs (F := F)) adm (dats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_ok V d).loose
  hwaits d := Pipeline.cellsWaits_intro _ _ _ _ _ fun w s t => (K (F := F)).mayWait_none _ (fun g => Otc_none d g)
  pre d := iprop(unscopedBufs d (V d) ∗ tcOwes d)
  post d := iprop(unscopedBufs d (Va V d) ∗ tcOwes d)
  X _ := BI.emp
  Y _ := BI.emp
  Z d := iprop(Pipeline.unscopedRest (Ix := HIx 1) (Name := ℕ) (U := UU) (Lvl := ℕ) spec0 d (V d))
  hentry d := by
    rw [Pipeline.ownSems0_none]
    have hsplit := Pipeline.arrays_of_unscopedBufs (p := 0) (pcfgs (F := F)) adm (dats V) launch0.win launch0.arr_whole d
      ((dats V 0 d).share_full fun _ => rfl) (V d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin d := by
    rw [show (dats V 0 d).Φ 0 = iprop(emp) from rfl]
    iintro -; iempintro
  hout d := by
    rw [Pipeline.ownSems0_none, show (dats V 0 d).Φ (Fin.last _) = iprop(emp) from rfl]
    iintro -
    isplitr; · iempintro
    isplitr; · iempintro
    rw [show Pipeline.scopedRest (Ix := HIx 1) (Name := ℕ) (U := UU) (Lvl := ℕ) (Val := Elt F) ((pcfgs (F := F)) 0).spec d = BI.emp from scopedRest0_eq d]
    iempintro
  hexit d := by
    have hjoin := Pipeline.unscopedBufs_of_arrays (p := 0) (pcfgs (F := F)) adm (Ix := HIx 1) (Name := ℕ) (U := UU) (Lvl := ℕ) launch0.win launch0.arr_whole d
      (dats V) ((dats V 0 d).share_full fun _ => rfl) (V d) (Va V d) ((dats V 0 d).arrAt · cfg0.N)
      (fun w => by
        fin_cases w
        · exact ((dats V 0 d).arrAt_in 0 rfl _).trans (Va_ne V d main_arg1 (by decide)).symm
        · exact ((dats V 0 d).arrAt_in 1 rfl _).trans (Va_ne V d main_arg2 (by decide)).symm
        · exact (Va_v0 V d).symm)
      (fun b hb => Va_ne V d b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.le_refl 0
    iexact HO

end Region

end Cert.Proof.Edge

end
-- ==== Proof.Main.lean ====
/-
  @main on the TensorCore, and the run of the whole program.
-/
module

public import proofs.«01_k».proof.Proof.Region

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Main

variable [FloatOps F] (CT : Dev nD → S18x128.Idx → Elt F .f32) (AT : Dev nD → S640000.Idx → BitVec 32)

/-! ## The call's operands, core by core -/

/-- A resource per core of the call is one per SparseCore. -/
theorem bigSep_cores (Φ : Fin τ.nSC → sProp 𝕄) :
    (bigSep Finset.univ fun c : Fin ((K (F := F)).nCore 0) => Φ (coreOf (F := F) c)) = bigSep Finset.univ Φ :=
  bigSep_congr fun _ _ => congrArg Φ (Fin.ext rfl)

/-- A buffer held whole is two halves, one for each SparseCore. -/
theorem pts_cores {ℓ : Loc nD τ sig} (f : Buf (Elt F) ℓ) :
    (ℓ ↦{fullShare} f : sProp 𝕄) = bigSep Finset.univ fun c : Fin τ.nSC => ℓ ↦{qc c} f :=
  pointsTo_piecesOf Finset.univ f (show 0 < 2 by decide) fullShare

/-- Two tiles that share a row are the same tile. -/
theorem tile_of_row {c c' : Fin τ.nSC} {i i' : Fin τ.nSub} {n : ℕ} (h : base c i ≤ n ∧ n < base c i + 10000)
    (h' : base c' i' ≤ n ∧ n < base c' i' + 10000) : (c, i) = (c', i') := by
  have hc : c.val < 2 := c.isLt
  have hc' : c'.val < 2 := c'.isLt
  unfold base at h h'
  have h1 : c.val = c'.val := by omega
  have h2 : i.val = i'.val := by omega
  exact Prod.ext (Fin.ext h1) (Fin.ext h2)

/-- Every row is some tile's. -/
theorem row_tile {n : ℕ} (h : n < 320000) : ∃ (c : Fin τ.nSC) (i : Fin τ.nSub), base c i ≤ n ∧ n < base c i + 10000 := by
  refine ⟨⟨n / 10000 % 2, Nat.mod_lt _ (by decide)⟩, ⟨n / 20000, ?_⟩, ?_⟩
  · show n / 20000 < 16
    omega
  · unfold base
    dsimp only
    omega

/-- The tiles' rows are all rows. -/
theorem tileRows_univ : ((Finset.univ : Finset (Fin τ.nSC × Fin τ.nSub)).biUnion fun ci => tileRows ci.1 ci.2) = Finset.univ := by
  ext x
  refine ⟨fun _ => Finset.mem_univ _, fun _ => ?_⟩
  obtain ⟨c, i, h⟩ := row_tile (n := (x 0).val) (x 0).isLt
  exact Finset.mem_biUnion.mpr ⟨(c, i), Finset.mem_univ _, mem_rowsOf.mpr h⟩

/-- The result held whole is every tile's rows of it. -/
theorem out_cores (d : Dev nD) (f : Buf (Elt F) (oLoc d)) : (oLoc d ↦{fullShare} f : sProp 𝕄) = bigSep Finset.univ fun c : Fin τ.nSC => oCore d c f := by
  have h := pointsTo_biUnion (Ix := HIx 1) (Val := Elt F) (Name := ℕ) (U := UU) (Lvl := ℕ) (ℓ := oLoc d) (q := fullShare) (f := f)
    (Finset.univ : Finset (Fin τ.nSC × Fin τ.nSub)) (fun ci => tileRows ci.1 ci.2)
    fun a _ b _ hne => Finset.disjoint_left.mpr fun x hx hx' => hne (tile_of_row (mem_rowsOf.mp hx) (mem_rowsOf.mp hx'))
  rw [tileRows_univ] at h
  rw [← bigSep_univ_prod (fun ci : Fin τ.nSC × Fin τ.nSub => (oPts d (tileRows ci.1 ci.2) f : sProp 𝕄))]
  exact h

variable (m : (ℓ : Loc nD τ sig) → Buf (Elt F) ℓ)

/-- What the call takes is the table, the attributes and the result buffer, whole. -/
theorem st0_eq (d : Dev nD) : (bigSep Finset.univ fun c : Fin ((K (F := F)).nCore 0) => (P CT AT m).st 0 d c)
    = iprop(cPts CT d fullShare ∗ aPts AT d fullShare ∗ oLoc d ↦{fullShare} m (oLoc d)) := by
  have hc := pts_cores (F := F) (ℓ := cLoc d)
  have ha := pts_cores (F := F) (ℓ := aLoc d)
  have ha' := ha (AT d)
  rw [show (cPts CT d fullShare : sProp 𝕄) = _ from hc (CT d), out_cores]
  rw [show (aPts AT d fullShare : sProp 𝕄) = _ from ha']
  rw [← bigSep_sep', ← bigSep_sep']
  exact bigSep_cores (F := F) fun c => iprop(cPts CT d (qc c) ∗ aPts AT d (qc c) ∗ oCore d c (m (oLoc d)))

/-- What it brings back. -/
theorem dn0_eq (d : Dev nD) : (bigSep Finset.univ fun c : Fin ((K (F := F)).nCore 0) => (P CT AT m).dn 0 d c)
    = iprop((cPts CT d fullShare ∗ aPts AT d fullShare ∗ oLoc d ↦{fullShare} outV CT AT d) ∗ bigSep Finset.univ fun c : Fin τ.nSC => bars d c) := by
  have hc := pts_cores (F := F) (ℓ := cLoc d)
  have ha := pts_cores (F := F) (ℓ := aLoc d)
  have ha' := ha (AT d)
  rw [show (cPts CT d fullShare : sProp 𝕄) = _ from hc (CT d), out_cores]
  rw [show (aPts AT d fullShare : sProp 𝕄) = _ from ha']
  rw [← bigSep_sep', ← bigSep_sep', ← bigSep_sep']
  exact bigSep_cores (F := F) fun c => iprop((cPts CT d (qc c) ∗ aPts AT d (qc c) ∗ oCore d c (outV CT AT d)) ∗ bars d c)

/-! ## @main on the TensorCore -/

/-- The buffers @main finds. -/
abbrev V0 (d : Dev nD) (b : Ref sig .tc) : Buf (Elt F) ((d.tc : Thread nD τ).loc b) := m ((d.tc : Thread nD τ).loc b)

/-- The table of sums @main makes. -/
abbrev CTm (d : Dev nD) : S18x128.Idx → Elt F .f32 := combo (V0 m) d
/-- The attributes, transposed. -/
abbrev trm (d : Dev nD) : S2x320000.Idx → BitVec 32 :=
  (transpose S2x320000 [1, 0] · transposes_S320000x2_S2x320000_1_0) (m ((SparseCore.T d : Thread nD τ).loc main_arg0) : S320000x2.Idx → BitVec 32)
/-- The attributes, transposed and raveled. -/
abbrev ATm (d : Dev nD) : S640000.Idx → BitVec 32 := fun i => shapeCast S640000 (trm m d) shapeCasts_S2x320000_S640000 i

/-- The TensorCore's buffers, one by one. -/
theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0)
      ∗ ((d.tc : Thread nD τ).loc main_arg1 ↦{fullShare} W main_arg1) ∗ ((d.tc : Thread nD τ).loc main_arg2 ↦{fullShare} W main_arg2)
      ∗ ((d.tc : Thread nD τ).loc main_v0 ↦{fullShare} W main_v0) ∗ ((d.tc : Thread nD τ).loc main_v1 ↦{fullShare} W main_v1)
      ∗ ((d.tc : Thread nD τ).loc main_v2 ↦{fullShare} W main_v2) ∗ (d.tc : Thread nD τ).loc main_v3 ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The three buffers the host's two operations are on. -/
abbrev hostRefs : Finset (DevRef τ sig) := {Proc.devRef .tc main_arg0, Proc.devRef .tc main_v1, Proc.devRef .tc main_v2}

/-- Those three held are each held. -/
theorem held_host (d : Dev nD) (W : Valuation τ sig (Elt F)) :
    (StableHlo.held (SparseCore.T d : Thread nD τ) hostRefs W : sProp 𝕄)
      = iprop(((d.tc : Thread nD τ).loc main_arg0 ↦{fullShare} W (Proc.devRef .tc main_arg0)) ∗ ((d.tc : Thread nD τ).loc main_v1 ↦{fullShare} W (Proc.devRef .tc main_v1))
          ∗ (d.tc : Thread nD τ).loc main_v2 ↦{fullShare} W (Proc.devRef .tc main_v2)) := by
  unfold StableHlo.held hostRefs
  rw [SparseCore.bigSep_insert' (by decide), SparseCore.bigSep_insert' (by decide), bigSep_singleton]

/-- The host's first operation. -/
abbrev op1 : HloOp τ sig (Elt F) := StableHlo.unary main_arg0 main_v1 ((transpose S2x320000 [1, 0] · transposes_S320000x2_S2x320000_1_0) : (⟨S320000x2, .i32⟩ : BufTy).Contents (Elt F) → (⟨S2x320000, .i32⟩ : BufTy).Contents (Elt F))
/-- The host's second operation. -/
abbrev op2 : HloOp τ sig (Elt F) := StableHlo.reshape main_v1 main_v2 (rfl : (.i32 : EltTy) = .i32) shapeCasts_S2x320000_S640000

/-- The memory as the host's operations find it, and as they leave it. -/
abbrev X0 (d : Dev nD) : Valuation τ sig (Elt F) := fun b => m (d, b)
abbrev X1 (d : Dev nD) : Valuation τ sig (Elt F) := (op1 (F := F)).result (X0 m d)
abbrev X2 (d : Dev nD) : Valuation τ sig (Elt F) := (op2 (F := F)).result (X1 m d)

/-- The host's two operations leave the attributes as they were. -/
theorem X2_arg0 (d : Dev nD) : X2 m d (Proc.devRef .tc main_arg0) = m ((d.tc : Thread nD τ).loc main_arg0) := by
  show (op2 (F := F)).result ((op1 (F := F)).result (X0 m d)) (Proc.devRef .tc main_arg0) = _
  have h2 : (Proc.devRef .tc main_arg0 : DevRef τ sig) ∉ (op2 (F := F)).writes := show (Proc.devRef .tc main_arg0 : DevRef τ sig) ∉ ({Proc.devRef .tc main_v2} : Finset (DevRef τ sig)) by decide
  have h1 : (Proc.devRef .tc main_arg0 : DevRef τ sig) ∉ (op1 (F := F)).writes := show (Proc.devRef .tc main_arg0 : DevRef τ sig) ∉ ({Proc.devRef .tc main_v1} : Finset (DevRef τ sig)) by decide
  rw [HloOp.result_of_not_mem _ _ h2, HloOp.result_of_not_mem _ _ h1]

/-- The host's first operation touches only the host's buffers. -/
theorem op1_sub : (op1 (F := F)).bufs ⊆ hostRefs :=
  show ({Proc.devRef .tc main_arg0, Proc.devRef .tc main_v1} : Finset (DevRef τ sig)) ⊆ hostRefs by decide
/-- So does its second. -/
theorem op2_sub : (op2 (F := F)).bufs ⊆ hostRefs :=
  show ({Proc.devRef .tc main_v1, Proc.devRef .tc main_v2} : Finset (DevRef τ sig)) ⊆ hostRefs by decide

/-- The host's two operations leave the raveled attributes. -/
theorem X2_v2 (d : Dev nD) : X2 m d (Proc.devRef .tc main_v2) = (ATm m d : Buf (Elt F) (aLoc d)) := by
  show (op2 (F := F)).result (X1 m d) (Proc.devRef .tc main_v2) = _
  rw [show (op2 (F := F)).result (X1 m d) (Proc.devRef .tc main_v2) = _ from StableHlo.reshape_result _ _ _ _ _ _ _]
  rw [show X1 m d (Proc.devRef .tc main_v1) = _ from StableHlo.unary_result _ _ _ _ _ _]
  rfl

variable (ρ : Dev nD → PrngReg)

/-- The region's step of @main. -/
theorem region_step [∀ e, Nonempty (Elt F e)] (V : (d : Dev nD) → (b : Ref sig .tc) → Buf (Elt F) ((d.tc : Thread nD τ).loc b)) (d : Dev nD) (Φ : PUnit → sProp 𝕄) :
    iprop((iprop(boundary (SparseCore.T d : Thread nD τ) ∗ unscopedBufs d (Va V d) ∗ tcOwes d) -∗ Φ ⟨⟩)
        ∗ boundary (SparseCore.T d : Thread nD τ) ∗ (unscopedBufs d (V d) ∗ tcOwes d) ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()) : Prog (TpuEff nD τ sig (Elt F) _ .tc) PUnit) Φ := by
  have h1 := (K (F := F)).wp_liftProg (D (F := F)) 𝒱 (SparseCore.T d : Thread nD τ) (Set.univ : Set ℕ) none
    (.op (.customCall (Pipeline.entry 0) ()) .ret : Prog (TpuEff nD τ sig (Elt F) (ΛP (F := F)) .tc) PUnit) Φ
  have h2 := Pipeline.RegionSeg.wp (pcfgs (F := F)) adm (dats V) (none : HIx 1) cellOf_inj EP defs₀ 𝒱₀ (K (F := F)).L (K (F := F)).lev (reg V) d
    none (fun u hu => nomatch hu) (fun _ => .ret PUnit.unit) Φ
  rw [show (reg V).pre d = iprop(unscopedBufs d (V d) ∗ tcOwes d) from rfl, show (reg V).post d = iprop(unscopedBufs d (Va V d) ∗ tcOwes d) from rfl] at h2
  iintro ⟨Hk, Hb, Hpre, Hlev, HG⟩
  iapply h1
  iapply h2
  isplitl [Hk]
  · iintro ⟨Hb, Hpost⟩
    sl_step
    iapply Hk
    isplitl [Hb]; · iexact Hb
    iexact Hpost
  isplitl [Hb]; · iexact Hb
  isplitl [Hpre]; · iexact Hpre
  isplitl [Hlev]; · iexact Hlev
  iexact HG

/-- The host's two steps of @main. -/
theorem host_step (d : Dev nD) (Φ : PUnit → sProp 𝕄) :
    iprop((boundary (SparseCore.T d : Thread nD τ) ∗ StableHlo.held (SparseCore.T d : Thread nD τ) hostRefs (X0 m d))
        ∗ ((boundary (SparseCore.T d : Thread nD τ) ∗ StableHlo.held (SparseCore.T d : Thread nD τ) hostRefs (X2 m d)) -∗ Φ ⟨⟩))
      ⊢ wp frame (wpE ((K (F := F)).defs (D (F := F))) 𝒱 (SparseCore.T d) none) Set.univ
          (hlo rfl (op1 (F := F)) (fun _ => .ret PUnit.unit) : Prog (TpuEff nD τ sig (Elt F) (SparseCore.Sig (ΛP (F := F)) 1) .tc) PUnit)
          (fun _ => wp frame (wpE ((K (F := F)).defs (D (F := F))) 𝒱 (SparseCore.T d) none) Set.univ
            (hlo rfl (op2 (F := F)) (fun _ => .ret PUnit.unit) : Prog (TpuEff nD τ sig (Elt F) (SparseCore.Sig (ΛP (F := F)) 1) .tc) PUnit) Φ) := by
  have h1 := fun Q => StableHlo.wp_hlo_within (defs := (K (F := F)).defs (D (F := F))) 𝒱 (SparseCore.T d : Thread nD τ) none (Set.univ : Set ℕ) (U := UU) (Lvl := ℕ) (Ix := HIx 1)
    (hp := rfl) (op := op1 (F := F)) (k := fun _ => (.ret PUnit.unit : Prog (TpuEff nD τ sig (Elt F) (SparseCore.Sig (ΛP (F := F)) 1) .tc) PUnit)) (op1_sub (F := F)) (V := X0 m d) (Q := Q) rfl
  have h2 := fun Q => StableHlo.wp_hlo_within (defs := (K (F := F)).defs (D (F := F))) 𝒱 (SparseCore.T d : Thread nD τ) none (Set.univ : Set ℕ) (U := UU) (Lvl := ℕ) (Ix := HIx 1)
    (hp := rfl) (op := op2 (F := F)) (k := fun _ => (.ret PUnit.unit : Prog (TpuEff nD τ sig (Elt F) (SparseCore.Sig (ΛP (F := F)) 1) .tc) PUnit)) (op2_sub (F := F)) (V := X1 m d) (Q := Q) rfl
  iintro ⟨H, Hk⟩
  iapply (h1 _) $$ H
  iintro H
  sl_step
  iapply (h2 _) $$ H
  iintro H
  sl_step
  iapply Hk
  iexact H

/-- What @main ends with: the arguments as found, the result, the barrier semaphores at zero. -/
abbrev FIN (d : Dev nD) : sProp 𝕄 :=
  iprop(((d.tc : Thread nD τ).loc main_arg0 ↦{fullShare} V0 m d main_arg0) ∗ ((d.tc : Thread nD τ).loc main_arg1 ↦{fullShare} V0 m d main_arg1)
    ∗ ((d.tc : Thread nD τ).loc main_arg2 ↦{fullShare} V0 m d main_arg2) ∗ (oLoc d ↦{fullShare} outV (CTm m) (ATm m) d)
    ∗ bigSep Finset.univ fun c : Fin τ.nSC => bars d c)

/-- @main on device `d`'s TensorCore: the table made, the attributes transposed and raveled, the SparseCores called. -/
theorem hmain [∀ e, Nonempty (Elt F e)] (κ : GSem nD τ sig → ℕ) (d : Dev nD) :
    iprop((K (F := F)).ctx EH (P (CTm m) (ATm m) m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  obtain ⟨R, hR⟩ : ∃ R : sProp 𝕄, (K (F := F)).tcSt EH d 0 = iprop(tcOwes (F := F) d ∗ R) := ⟨_, rfl⟩
  rw [hR]
  iintro ⟨#Hctx, ⟨HO, Hst⟩, ⟨Hb, Hub, Hts, -⟩, HG⟩
  ihave Hlev := (SparseCore.Cfg.ctx_levAts κ) $$ Hctx
  iapply (region_step (V0 m) d)
  isplitr [Hb Hub HO Hlev HG]
  swap
  · isplitl [Hb]; · iexact Hb
    isplitl [Hub HO]
    · isplitl [Hub]; · iexact Hub
      iexact HO
    isplitl [Hlev]; · iexact Hlev
    iexact HG
  iintro ⟨Hb, Hub, HO⟩
  ihave Hub := (Entails.of_eq (unscopedBufs_eq d (Va (V0 m) d))) $$ Hub
  icases Hub with ⟨Ha0, Ha1, Ha2, Hv0, Hv1, Hv2, Hv3⟩
  rw [Va_v0, Va_ne (V0 m) d main_arg0 (by decide), Va_ne (V0 m) d main_arg1 (by decide), Va_ne (V0 m) d main_arg2 (by decide),
    Va_ne (V0 m) d main_v1 (by decide), Va_ne (V0 m) d main_v2 (by decide), Va_ne (V0 m) d main_v3 (by decide)]
  ihave Hh := (Entails.of_eq (held_host d (X0 m d)).symm) $$ [Ha0 Hv1 Hv2]
  · isplitl [Ha0]; · iexact Ha0
    isplitl [Hv1]; · iexact Hv1
    iexact Hv2
  iapply (host_step m d)
  isplitl [Hb Hh]
  · isplitl [Hb]; · iexact Hb
    iexact Hh
  iintro ⟨Hb, Hh⟩
  ihave Hh := (Entails.of_eq (held_host d (X2 m d))) $$ Hh
  icases Hh with ⟨Ha0, -, Hv2⟩
  rw [X2_arg0, X2_v2]
  iapply ((K (F := F)).wp_run (D (F := F)) 𝒱 (EH := EH) (P := P (CTm m) (ATm m) m) κ d 0) $$ [HO Hst Hv0 Hv2 Hv3 Ha0 Ha1 Ha2 Hb Hts]
  isplitr; · iexact Hctx
  isplitl [HO Hst]
  · rw [show (K (F := F)).tcSt EH d ((0 : Fin 1) : ℕ) = _ from hR]
    isplitl [HO]; · iexact HO
    iexact Hst
  isplitl [Hv0 Hv2 Hv3]
  · rw [st0_eq]
    isplitl [Hv0]; · iexact Hv0
    isplitl [Hv2]; · iexact Hv2
    iexact Hv3
  iintro ⟨Hst, Hdn⟩
  ihave Hdn' := (Entails.of_eq (dn0_eq (CTm m) (ATm m) m d)) $$ Hdn
  icases Hdn' with ⟨⟨-, -, Ho⟩, Hbars⟩
  imodintro
  isplitl [Hst]; · iexact Hst
  isplitr [Hb Hts]
  · isplitl [Ha0]; · iexact Ha0
    isplitl [Ha1]; · iexact Ha1
    isplitl [Ha2]; · iexact Ha2
    isplitl [Ho]; · iexact Ho
    iexact Hbars
  isplitl [Hb] <;> iassumption

/-! ## The program's run -/

/-- What a final state shows. -/
def fq (d : Dev nD) (s' : Phys nD τ sig (Elt F)) : Prop :=
  (s'.mem.mem ((d.tc : Thread nD τ).loc main_arg0) = V0 m d main_arg0 ∧ s'.mem.mem ((d.tc : Thread nD τ).loc main_arg1) = V0 m d main_arg1
    ∧ s'.mem.mem ((d.tc : Thread nD τ).loc main_arg2) = V0 m d main_arg2 ∧ s'.mem.mem (oLoc d) = outV (CTm m) (ATm m) d)
  ∧ ∀ (c : Fin τ.nSC) (i : Fin τ.nSub), s'.mem.sem (bcell d c i) = 0

/-- A buffer held whole is what memory holds. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What @main ends with fixes the final state: the arguments unchanged, the result, the barrier's semaphores at zero. -/
theorem hfin (d : Dev nD) (s' : Phys nD τ sig (Elt F)) : iprop(FIN m d ∗ SI s') ⊢ (⌜fq m d s'⌝ : sProp 𝕄) :=
  fun x hx =>
    ⟨⟨((sep_mono_left sep_elim_left).trans (read_whole _ _ s')) x hx,
      ((sep_mono_left (sep_elim_right.trans sep_elim_left)).trans (read_whole _ _ s')) x hx,
      ((sep_mono_left (sep_elim_right.trans (sep_elim_right.trans sep_elim_left))).trans (read_whole _ _ s')) x hx,
      ((sep_mono_left (sep_elim_right.trans (sep_elim_right.trans (sep_elim_right.trans sep_elim_left)))).trans (read_whole _ _ s')) x hx⟩,
     fun c i => ((sep_mono_left (sep_elim_right.trans (sep_elim_right.trans (sep_elim_right.trans (sep_elim_right.trans
      ((SparseCore.ent (bigSep_elim (Finset.mem_univ c))).trans (SparseCore.ent (bigSep_elim (Finset.mem_univ i))))))))).trans
        (SparseCore.Cfg.semVal_zero_read _ s')) x hx⟩

/-- The barrier semaphores end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-- What the run ends with. -/
def QC : PUnit × MemSt nD τ sig (Elt F) → Prop := fun r =>
  (∀ d : Dev nD, r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_v3) = outV (CTm m) (ATm m) d)
  ∧ r.2.sem = fun _ => 0

/-- The program runs, if every attribute is below three: the arguments as found, the result the table's rows taken. -/
theorem run_main [∀ e, Nonempty (Elt F e)] (hlt : ∀ d x, (ATm m d x).toNat < 3) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (CTm m) (ATm m) m) (hA := hA m) facts v₀
    (fun q hq => match q with | 0 => nomatch hq)
    (fun q _ => match q with | 0 => tileObl (CTm m) (ATm m) m hlt facts)
    (fun q _ => match q with | 0 => vecSplit (CTm m) (ATm m) m)
    m ρ main (fun d => G d) (FIN m) (u₀ (F := F)) (hu₀ (CTm m) (ATm m) m) (hmain m ρ) (fq m) (hfin m) (QC m)
    (fun _ h hz => ⟨fun c => (h c).1, hz⟩)

end Main

end Cert.Proof.Edge

end
-- ==== Proof.Frames.lean ====
/-
  The precondition read, and the two claims that the kernel runs.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Pre

/-- An attribute that is at least zero and below three, as the precondition compares it. -/
theorem cmp_lt {w : BitVec 32} (h1 : IntOp.cmpi .sge w 0#32 = 1#1) (h2 : IntOp.cmpi .slt w 3#32 = 1#1) : w.toNat < 3 := by
  have e1 : BitVec.sle 0#32 w = true := by
    by_contra h
    rw [Bool.not_eq_true] at h
    have : IntOp.cmpi .sge w 0#32 = BitVec.ofBool (BitVec.sle 0#32 w) := rfl
    rw [this, h] at h1
    exact absurd h1 (by decide)
  have e2 : BitVec.slt w 3#32 = true := by
    by_contra h
    rw [Bool.not_eq_true] at h
    have : IntOp.cmpi .slt w 3#32 = BitVec.ofBool (BitVec.slt w 3#32) := rfl
    rw [this, h] at h2
    exact absurd h2 (by decide)
  rw [BitVec.sle_eq_decide, decide_eq_true_eq] at e1
  rw [BitVec.slt_eq_decide, decide_eq_true_eq] at e2
  rw [BitVec.toInt_eq_toNat_cond] at e1 e2
  rw [BitVec.toInt_eq_toNat_cond] at e1 e2
  simp at e1 e2
  split at e2 <;> omega

instance : Subsingleton Cert.Pre_in_range.S_.Idx := ⟨fun a b => funext fun i => i.elim0⟩

/-- The precondition says that every attribute is below three. -/
theorem pre_lt [FloatOps F] (a0 : IVec Cert.Pre_in_range.S320000x2 32) (a1 : FVec F Cert.Pre_in_range.S6x128 .f32) (a2 : FVec F Cert.Pre_in_range.S3x128 .f32)
    (h : Cert.Pre_in_range.fn (F := F) a0 a1 a2 = fun _ => 1#1) (i : Cert.Pre_in_range.S320000x2.Idx) : (a0 i).toNat < 3 := by
  have h0 := congrFun h (Shape.Idx.first Cert.Pre_in_range.Gen.facts.h_S_)
  unfold Cert.Pre_in_range.fn at h0
  obtain ⟨h1, h2⟩ := IntOp.andi_eq_one.1 h0
  exact cmp_lt (Host.reduce_andi_all _ _ _ _ _ h1 i) (Host.reduce_andi_all _ _ _ _ _ h2 i)

variable [FloatOps F] (m : (ℓ : Loc nD τ sig) → Buf (Elt F) ℓ)

/-- Then every raveled attribute is below three. -/
theorem att_lt (h : ∀ c : Dev nD, Cert.Pre_in_range.fn (F := F) (m ((c.tc : Thread nD τ).loc main_arg0)) (m ((c.tc : Thread nD τ).loc main_arg1)) (m ((c.tc : Thread nD τ).loc main_arg2)) = fun _ => 1#1)
    (d : Dev nD) (x : S640000.Idx) : (ATm m d x).toNat < 3 :=
  pre_lt _ _ _ (h d) _

end Pre

/-- The arguments of a final state are as found, and its semaphores at zero. -/
theorem kept [FloatOps F] {m : (ℓ : Loc nD τ sig) → Buf (Elt F) ℓ} {r : PUnit × MemSt nD τ sig (Elt F)} (h : QC m r) :
    (∀ d : Dev nD, r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2))
    ∧ r.2.sem = fun _ => 0 := ⟨fun d => ⟨(h.1 d).1, (h.1 d).2.1, (h.1 d).2.2.1⟩, h.2⟩

/-- The two programs' kernels are the same. -/
theorem defs₀_eq : Cert.Kernel.defs₀ (F := Bits) = Cert.KernelIdeal.defs₀ (F := Bits) := by
  funext p l a
  rcases p with _ | c | ⟨c, i⟩ <;> rcases l with ⟨_ | _ | l, hl⟩
  · rfl
  · rfl
  · exact absurd hl (by omega)
  · rfl
  · rfl
  · exact absurd hl (by omega)
  · rfl
  · rfl
  · exact absurd hl (by omega)

/-- The two programs' body tables are the same. -/
theorem defs_eq : Cert.Kernel.defs (F := Bits) = Cert.KernelIdeal.defs (F := Bits) :=
  congrArg (fun D => Cert.KernelIdeal.sc.defs (Pipeline.defs Cert.KernelIdeal.pcfgs D)) defs₀_eq

/-- The kernel as it is printed runs, its arguments unchanged, every semaphore at zero at the end. -/
theorem frame_kernel : Cert.quiescent_Kernel := fun m ρ hpre => by
  have h := (θ_run Cert.KernelIdeal.defs _ _).mono (fun _ h => kept (F := Bits) h) (run_main (F := Bits) m ρ (att_lt (F := Bits) m hpre))
  rw [← defs_eq] at h
  exact h

/-- The kernel read at the extended reals runs, its arguments unchanged, every semaphore at zero at the end. -/
theorem frame_kernelIdeal : Cert.quiescent_KernelIdeal := fun m ρ hpre =>
  (θ_run Cert.KernelIdeal.defs _ _).mono (fun _ h => kept (F := Ideal) h) (run_main (F := Ideal) m ρ (att_lt (F := Ideal) m hpre))

end Cert.Proof.Edge

end
-- ==== Proof.Table.lean ====
/-
  The table of sums: what the TensorCore kernel leaves in it, row by row, over the extended reals.
-/
module

public import proofs.«01_k».proof.Defs
public import proofs.«01_k».proof.Proof.Main
public import proofs.«01_k».proof.Proof.Gen.KernelIdeal.Points
public import Idealize.ShloMosaic.Lib.ValueLayout
public import Idealize.ShloMosaic.Lib.ValueIdx
public import Idealize.ShloMosaic.PureOps.IdealRules

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Table

open Idealize.ShloMosaic.ValueIdx

variable {F : FTy → Type} [FloatOps F] [∀ e, Nonempty (Elt F e)]

section Generic

variable (V : (d : Dev nD) → (b : Ref sig .tc) → Buf (Elt F) ((d.tc : Thread nD τ).loc b))

/-- The table of sums, its one block written back, is what the kernel left in the staging buffer. -/
theorem combo_eq (d : Dev nD) : combo V d = (kRun V d).1 := by
  have hz : (fun a => (win0_2.index t0_0) a * main_v0.ty.shape.size a) = fun _ => 0 :=
    funext fun a => by fin_cases a <;> decide
  have hr := fun f => Memref.read_access_unit_zero (Elt F) main_v0 hz (fun a => by fin_cases a <;> decide) f
  have h : ((cfg0.win 2).blk t0_0).view.read (Elt F) (combo V d) = (dat V d).flushed 2 t0_0 := by
    unfold combo
    rw [show cfg0.N = (t0_0 : Fin cfg0.N).val + 1 from rfl, (dat V d).arrAt_succ 2 t0_0, if_pos (flush0_2 t0_0)]
    exact View.read_write_univ _ _
  exact (hr _).symm.trans h

/-- The two given tables are staged whole. -/
theorem stgA_eq (d : Dev nD) : stgA V d = V d main_arg1 := by
  have hz : (fun a => (win0_0.index t0_0) a * main_arg1.ty.shape.size a) = fun _ => 0 :=
    funext fun a => by fin_cases a <;> decide
  exact Memref.read_access_unit_zero (Elt F) main_arg1 hz (fun a => by fin_cases a <;> decide) _

/-- The kernel's second window is the second table, whole. -/
theorem stgB_eq (d : Dev nD) : stgB V d = V d main_arg2 := by
  have hz : (fun a => (win0_1.index t0_0) a * main_arg2.ty.shape.size a) = fun _ => 0 :=
    funext fun a => by fin_cases a <;> decide
  exact Memref.read_access_unit_zero (Elt F) main_arg2 hz (fun a => by fin_cases a <;> decide) _

/-- What the kernel leaves there is its last sum. -/
theorem kRun_eq (d : Dev nD) : (kRun V d).1 = comboRun.sl.v106 d (stage0_0 0) (stage0_1 0) (V d main_arg1) (V d main_arg2) := by
  rw [← stgA_eq V d, ← stgB_eq V d]
  unfold kRun
  unfold comboRun
  dsimp only
  unfold comboRun.sl.H2_1
  simp only [View.writes_singleton]
  have hz : (![0, 0] : Fin 2 → ℕ) = fun _ => 0 := funext fun a => by fin_cases a <;> rfl
  exact Memref.write_access_unit_zero_univ (Elt F) cc0_stg2_0 hz _ _ _

end Generic

/-- Row `r`'s quotient by three, as the kernel works it out. -/
theorem quo_at (r : Fin 18) (c : Fin 128) : comboRun.sl.v24 (ix2 r c) = BitVec.ofNat 32 (r.val / 3) :=
  (show comboRun.sl.v24 (ix2 r c) = comboRun.sl.v24 (ix2 r (0 : Fin 128)) from rfl).trans
    ((by decide +kernel : ∀ r : Fin 18, comboRun.sl.v24 (ix2 r (0 : Fin 128)) = BitVec.ofNat 32 (r.val / 3)) r)

/-- Row `r`'s remainder by three. -/
theorem rem_at (r : Fin 18) (c : Fin 128) : comboRun.sl.v27 (ix2 r c) = BitVec.ofNat 32 (r.val % 3) :=
  (show comboRun.sl.v27 (ix2 r c) = comboRun.sl.v27 (ix2 r (0 : Fin 128)) from rfl).trans
    ((by decide +kernel : ∀ r : Fin 18, comboRun.sl.v27 (ix2 r (0 : Fin 128)) = BitVec.ofNat 32 (r.val % 3)) r)

/-- A given table's row, spread down the table of sums. -/
theorem spread (v : S1x128.Idx → Elt F .f32) (r : Fin 18) (c : Fin 128) :
    broadcastTo S18x128 (shapeCast S1x128 (shapeCast S1x128 (shapeCast S128 v shapeCasts_S1x128_S128) shapeCasts_S128_S1x128)
      shapeCasts_S1x128_S1x128) broadcasts_S1x128_S18x128 (ix2 r c) = v (ix2 (0 : Fin 1) c) := by
  refine (broadcastTo_1b_ab_apply _ _ r c).trans ?_
  rw [shapeCast_self]
  refine (shapeCast_a_1a_apply _ _ _ c).trans ?_
  exact shapeCast_1a_a_apply _ _ c

/-- A row of the first given table, as the kernel loads it. -/
theorem read_rowA (A : S6x128.Idx → Elt F .f32) (k : Fin 6) (h : ∀ a, (![k.val, 0] : Fin 2 → ℕ) a + S1x128.size a ≤ S6x128.size a) (c : Fin 128) :
    (stage0_0 0).view.readAt (Elt F) (Rect.unit (s := S6x128) ![k.val, 0] S1x128.size h).toLoadRect A (ix2 (0 : Fin 1) c) = A (ix2 k c) := by
  refine congrArg A (funext fun a => Fin.ext ?_)
  match a with
  | 0 => show k.val + 1 * 0 = k.val; omega
  | 1 => show 0 + 1 * c.val = c.val; omega

/-- A row of the second. -/
theorem read_rowB (B : S3x128.Idx → Elt F .f32) (k : Fin 3) (h : ∀ a, (![k.val, 0] : Fin 2 → ℕ) a + S1x128.size a ≤ S3x128.size a) (c : Fin 128) :
    (stage0_1 0).view.readAt (Elt F) (Rect.unit (s := S3x128) ![k.val, 0] S1x128.size h).toLoadRect B (ix2 (0 : Fin 1) c) = B (ix2 k c) := by
  refine congrArg B (funext fun a => Fin.ext ?_)
  match a with
  | 0 => show k.val + 1 * 0 = k.val; omega
  | 1 => show 0 + 1 * c.val = c.val; omega

variable (d : Dev nD) (A : S6x128.Idx → Elt F .f32) (B : S3x128.Idx → Elt F .f32) (r : Fin 18) (c : Fin 128)

/-! The rows the kernel spreads, each down the whole table of sums. -/

/-- Row 0 of the first table, spread. -/
theorem a0_at : comboRun.sl.v35 (F := F) d (stage0_0 0) A (ix2 r c) = A (ix2 (0 : Fin 6) c) := (spread _ r c).trans (read_rowA A 0 _ c)
/-- Row 1 of the first table, spread. -/
theorem a1_at : comboRun.sl.v43 (F := F) d (stage0_0 0) A (ix2 r c) = A (ix2 (1 : Fin 6) c) := (spread _ r c).trans (read_rowA A 1 _ c)
/-- Row 2 of the first table, spread. -/
theorem a2_at : comboRun.sl.v51 (F := F) d (stage0_0 0) A (ix2 r c) = A (ix2 (2 : Fin 6) c) := (spread _ r c).trans (read_rowA A 2 _ c)
/-- Row 0 of the second table, spread. -/
theorem b0_at : comboRun.sl.v83 (F := F) d (stage0_1 0) B (ix2 r c) = B (ix2 (0 : Fin 3) c) := (spread _ r c).trans (read_rowB B 0 _ c)
/-- Row 1 of the second table, spread. -/
theorem b1_at : comboRun.sl.v93 (F := F) d (stage0_1 0) B (ix2 r c) = B (ix2 (1 : Fin 3) c) := (spread _ r c).trans (read_rowB B 1 _ c)
/-- Row 2 of the second table, spread. -/
theorem b2_at : comboRun.sl.v103 (F := F) d (stage0_1 0) B (ix2 r c) = B (ix2 (2 : Fin 3) c) := (spread _ r c).trans (read_rowB B 2 _ c)

/-- A word compared with a spread word. -/
theorem pick_eq (x : IVec S18x128 32) (w u : BitVec 32) (t e : FVec F S18x128 .f32) (i : S18x128.Idx) (h : x i = w) :
    select (cmpi .eq x (broadcast S18x128 u)) t e i = if w = u then t i else e i := by
  subst h
  show Scalar.select (IntOp.cmpi .eq (x i) u) (t i) (e i) = _
  by_cases hu : x i = u
  · rw [if_pos hu, hu]; simp [IntOp.cmpi, Scalar.select]
  · rw [if_neg hu]; simp [IntOp.cmpi, Scalar.select, beq_eq_false_iff_ne.2 hu]

/-- The first table's row that the kernel picks for row `r` of the table of sums. -/
theorem pickA (a : Fin 3) (h : r.val / 3 = a.val) :
    comboRun.sl.v76 (F := F) d (stage0_0 0) A (ix2 r c) = A (ix2 (⟨a.val, by omega⟩ : Fin 6) c) := by
  have hq : comboRun.sl.v24 (ix2 r c) = BitVec.ofNat 32 a.val := (quo_at r c).trans (by rw [h])
  refine (pick_eq _ _ 5#32 _ _ _ hq).trans ((if_neg ((by decide : ∀ a : Fin 3, BitVec.ofNat 32 a.val ≠ 5#32) a)).trans ?_)
  refine (pick_eq _ _ 4#32 _ _ _ hq).trans ((if_neg ((by decide : ∀ a : Fin 3, BitVec.ofNat 32 a.val ≠ 4#32) a)).trans ?_)
  refine (pick_eq _ _ 3#32 _ _ _ hq).trans ((if_neg ((by decide : ∀ a : Fin 3, BitVec.ofNat 32 a.val ≠ 3#32) a)).trans ?_)
  refine (pick_eq _ _ 2#32 _ _ _ hq).trans ?_
  match a with
  | 2 => exact (if_pos (by decide)).trans (a2_at d A r c)
  | 1 =>
    refine (if_neg (by decide)).trans ((pick_eq _ _ 1#32 _ _ _ hq).trans ?_)
    exact (if_pos (by decide)).trans (a1_at d A r c)
  | 0 =>
    refine (if_neg (by decide)).trans ((pick_eq _ _ 1#32 _ _ _ hq).trans ((if_neg (by decide)).trans ((pick_eq _ _ 0#32 _ _ _ hq).trans ?_)))
    exact (if_pos (by decide)).trans (a0_at d A r c)

/-- The zero the kernel spreads. -/
theorem zero_at (i : S18x128.Idx) : (comboRun.sl.v28 (F := Ideal) : S18x128.Idx → EReal) i = 0 := IdealRules.sign_bit.ideal_zero .f32

/-- Over the extended reals, row `3 a + b` of the table of sums is the first table's row `a` and the second's row `b`, added. -/
theorem sum_at (A : S6x128.Idx → EReal) (B : S3x128.Idx → EReal) (a b : Fin 3) (h : r.val / 3 = a.val) (h' : r.val % 3 = b.val) :
    comboRun.sl.v106 (F := Ideal) d (stage0_0 0) (stage0_1 0) A B (ix2 r c) = A (ix2 (⟨a.val, by omega⟩ : Fin 6) c) + B (ix2 b c) := by
  have hq : comboRun.sl.v27 (ix2 r c) = BitVec.ofNat 32 b.val := (rem_at r c).trans (by rw [h'])
  have e0 := pick_eq (F := Ideal) comboRun.sl.v27 _ 0#32 (comboRun.sl.v83 d (stage0_1 0) B) comboRun.sl.v28 _ hq
  have e1 := pick_eq (F := Ideal) comboRun.sl.v27 _ 1#32 (comboRun.sl.v93 d (stage0_1 0) B) comboRun.sl.v28 _ hq
  have e2 := pick_eq (F := Ideal) comboRun.sl.v27 _ 2#32 (comboRun.sl.v103 d (stage0_1 0) B) comboRun.sl.v28 _ hq
  have hz := zero_at (ix2 r c)
  refine (show _ = ((comboRun.sl.v76 (F := Ideal) d (stage0_0 0) A (ix2 r c) + comboRun.sl.v85 (F := Ideal) d (stage0_1 0) B (ix2 r c))
    + comboRun.sl.v95 (F := Ideal) d (stage0_1 0) B (ix2 r c)) + comboRun.sl.v105 (F := Ideal) d (stage0_1 0) B (ix2 r c) from rfl).trans ?_
  rw [pickA (F := Ideal) d A r c a h]
  match b with
  | 0 =>
    rw [show comboRun.sl.v85 (F := Ideal) d (stage0_1 0) B (ix2 r c) = _ from (e0.trans (if_pos (by decide))).trans (b0_at (F := Ideal) d B r c),
      show comboRun.sl.v95 (F := Ideal) d (stage0_1 0) B (ix2 r c) = _ from (e1.trans (if_neg (by decide))).trans hz,
      show comboRun.sl.v105 (F := Ideal) d (stage0_1 0) B (ix2 r c) = _ from (e2.trans (if_neg (by decide))).trans hz]
    exact (add_zero _).trans (add_zero _)
  | 1 =>
    rw [show comboRun.sl.v85 (F := Ideal) d (stage0_1 0) B (ix2 r c) = _ from (e0.trans (if_neg (by decide))).trans hz,
      show comboRun.sl.v95 (F := Ideal) d (stage0_1 0) B (ix2 r c) = _ from (e1.trans (if_pos (by decide))).trans (b1_at (F := Ideal) d B r c),
      show comboRun.sl.v105 (F := Ideal) d (stage0_1 0) B (ix2 r c) = _ from (e2.trans (if_neg (by decide))).trans hz]
    exact (add_zero _).trans (congrArg (· + B (ix2 (1 : Fin 3) c)) (add_zero _))
  | 2 =>
    rw [show comboRun.sl.v85 (F := Ideal) d (stage0_1 0) B (ix2 r c) = _ from (e0.trans (if_neg (by decide))).trans hz,
      show comboRun.sl.v95 (F := Ideal) d (stage0_1 0) B (ix2 r c) = _ from (e1.trans (if_neg (by decide))).trans hz,
      show comboRun.sl.v105 (F := Ideal) d (stage0_1 0) B (ix2 r c) = _ from (e2.trans (if_pos (by decide))).trans (b2_at (F := Ideal) d B r c)]
    exact congrArg (· + B (ix2 (2 : Fin 3) c)) ((add_zero _).trans (add_zero _))

/-- The two given tables on a device, as arrays of extended reals. -/
def tabA (m : (ℓ : Loc nD τ sig) → Buf (Elt Ideal) ℓ) (d : Dev nD) : S6x128.Idx → EReal := m (d.tc.loc main_arg1)
def tabB (m : (ℓ : Loc nD τ sig) → Buf (Elt Ideal) ℓ) (d : Dev nD) : S3x128.Idx → EReal := m (d.tc.loc main_arg2)

/-- So it is in the table the region leaves. -/
theorem CTm_at (m : (ℓ : Loc nD τ sig) → Buf (Elt Ideal) ℓ) (a b : Fin 3) (h : r.val / 3 = a.val) (h' : r.val % 3 = b.val) :
    (CTm (F := Ideal) m d : S18x128.Idx → EReal) (ix2 r c) = tabA m d (ix2 (⟨a.val, by omega⟩ : Fin 6) c) + tabB m d (ix2 b c) := by
  have e : CTm (F := Ideal) m d = comboRun.sl.v106 d (stage0_0 0) (stage0_1 0) (m (d.tc.loc main_arg1)) (m (d.tc.loc main_arg2)) :=
    (combo_eq (V0 m) d).trans (kRun_eq (V0 m) d)
  rw [e]
  exact sum_at d r c (tabA m d) (tabB m d) a b h h'

end Table

end Cert.Proof.Edge

end
-- ==== Proof.Lookup.lean ====
/-
  Reading the reference and the raveled attributes at one element: the lookups, the columns, the transpose.
-/
module

public import proofs.«01_k».proof.Proof.Main
public import Idealize.ShloMosaic.Lib.ValueLayout
public import Idealize.ShloMosaic.Lib.ReduceAll
public import Idealize.ShloMosaic.Lib.Routing.Ops

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Lookup

open Idealize.ShloMosaic.ValueIdx

/-- The words below three. -/
theorem small (w : BitVec 32) (h : w.toNat < 3) : w = 0#32 ∨ w = 1#32 ∨ w = 2#32 := by
  rw [← BitVec.toNat_inj, ← BitVec.toNat_inj, ← BitVec.toNat_inj]
  simp only [BitVec.toNat_ofNat]
  omega

variable {n nb : ℕ}

/-- A column of attributes, its negative words wrapped to the end of a table: it has none. -/
theorem wrapped_at (col zero top : IVec (⟨1, ![n]⟩ : Shape) 32) (hz : ∀ i, zero i = 0#32) (hcol : ∀ i, (col i).toNat < 3)
    (h : (⟨1, ![n]⟩ : Shape).BroadcastsInDim ⟨2, ![n, 1]⟩ ![0]) (j : (⟨2, ![n, 1]⟩ : Shape).Idx) :
    broadcastInDim ⟨2, ![n, 1]⟩ ![0] h (select (cmpi .slt col zero) (addi col top) col) j = col (ix1 (j 0)) := by
  refine (broadcastInDim_apply _ _ _ j (ix1 (j 0)) fun a => ?_).trans ?_
  · match a with
    | ⟨0, _⟩ =>
      show (j 0).val = if n = 1 then 0 else (j 0).val
      have hlt : (j 0).val < n := (j 0).isLt
      split
      · omega
      · rfl
  · show Scalar.select (IntOp.cmpi .slt (col (ix1 (j 0))) (zero (ix1 (j 0)))) _ _ = _
    rw [hz]
    have hc : IntOp.cmpi .slt (col (ix1 (j 0))) 0#32 = 0#1 := by
      rcases small _ (hcol (ix1 (j 0))) with e | e | e <;> rw [e] <;> rfl
    rw [hc]
    exact select_zero _ _

/-- A table's rows looked up: the rows named by words below three are found, and no mask shows. -/
theorem lookup_at {α : Type} (g : GatherDims (⟨2, ![nb, 128]⟩ : Shape) ⟨2, ![n, 1]⟩ ⟨2, ![n, 128]⟩) (hoff : g.offsetDims = [1])
    (hcoll : g.collapsedSliceDims = [0]) (hob : g.operandBatchingDims = []) (hsim : g.startIndexMap = [0]) (hivd : g.indexVectorDim = 1)
    (tbl : (⟨2, ![nb, 128]⟩ : Shape).Idx → α) (nan : (⟨2, ![n, 128]⟩ : Shape).Idx → α) (W zero top : IVec (⟨2, ![n, 1]⟩ : Shape) 32)
    {u : Shape} (one : u.Idx → BitVec 1) (hu : 0 < u.numel) (T : BitVec 32)
    (hr : (⟨2, ![n, 1]⟩ : Shape).ReducesTo [1] ⟨1, ![n]⟩) (hb : (⟨1, ![n]⟩ : Shape).BroadcastsInDim ⟨2, ![n, 128]⟩ ![0])
    (hW : ∀ i, (W i).toNat < 3) (hz : ∀ i, zero i = 0#32) (ht : ∀ i, top i = T) (hT : T = 2#32 ∨ T = 5#32) (ho : ∀ i, one i = 1#1)
    (hnb : nb < 2 ^ 31) (e : Fin n) (j : Fin 128) (b : Fin nb) (hbv : W (ix2 e (0 : Fin 1)) = BitVec.ofNat 32 b.val) :
    select (broadcastInDim ⟨2, ![n, 128]⟩ ![0] hb (Host.reduce IntOp.andi (andi (cmpi .sge W zero) (cmpi .sle W top)) one hr hu))
      (Host.gather g tbl W) nan (ix2 e j) = tbl (ix2 b j) := by
  have h1 : broadcastInDim ⟨2, ![n, 128]⟩ ![0] hb (Host.reduce IntOp.andi (andi (cmpi .sge W zero) (cmpi .sle W top)) one hr hu) (ix2 e j) = 1#1 := by
    unfold broadcastInDim
    refine Host.reduce_andi_one _ _ _ _ _ (ho _) fun i => ?_
    show IntOp.andi (IntOp.cmpi .sge (W i) (zero i)) (IntOp.cmpi .sle (W i) (top i)) = 1#1
    rw [hz, ht]
    rcases small _ (hW i) with e | e | e <;> rcases hT with t | t <;> rw [e, t] <;> rfl
  show Scalar.select _ _ _ = _
  rw [h1]
  exact (select_one _ _).trans (Routing.gather_row g hoff hcoll hob hsim hivd tbl W e j b hbv hnb)

/-- Column `k` of the attributes, cut out and flattened. -/
theorem column_at {α : Type} (x : (⟨2, ![n, 2]⟩ : Shape).Idx → α) (o : ℕ) (hs : (⟨2, ![n, 2]⟩ : Shape).Slices ![0, o] ⟨2, ![n, 1]⟩)
    (hc : (⟨2, ![n, 1]⟩ : Shape).ShapeCasts ⟨1, ![n]⟩) (k : Fin 2) (hk : k.val = o) (i : (⟨1, ![n]⟩ : Shape).Idx) :
    shapeCast ⟨1, ![n]⟩ (extractStridedSlice ⟨2, ![n, 1]⟩ ![0, o] x hs) hc i = x (ix2 (i 0) k) := by
  refine (shapeCast_apply _ hc i (ix2 (i 0) (0 : Fin 1)) ?_).trans (slice2_axis1_apply o x hs (i 0) 0 k (by rw [hk]; rfl))
  rw [Shape.rowMajor_val_two, Shape.rowMajor_val_one]
  show (i 0).val * 1 + 0 = (i 0).val
  omega

/-- Word `k n + e` of the attributes, transposed and raveled. -/
theorem ravel_at {α : Type} {N : ℕ} (x : (⟨2, ![n, 2]⟩ : Shape).Idx → α) (ht : (⟨2, ![n, 2]⟩ : Shape).Transposes [1, 0] ⟨2, ![2, n]⟩)
    (hc : (⟨2, ![2, n]⟩ : Shape).ShapeCasts ⟨1, ![N]⟩) (e : Fin n) (k : Fin 2) (i : (⟨1, ![N]⟩ : Shape).Idx) (hi : (i 0).val = k.val * n + e.val) :
    shapeCast ⟨1, ![N]⟩ (transpose ⟨2, ![2, n]⟩ [1, 0] x ht) hc i = x (ix2 e k) := by
  refine (shapeCast_apply _ hc i (ix2 k e) ?_).trans (transpose_ix2_apply x ht k e)
  rw [Shape.rowMajor_val_two, Shape.rowMajor_val_one]
  exact hi.symm

end Lookup

end Cert.Proof.Edge

end
-- ==== Proof.Values.lean ====
/-
  The kernel's result and the reference's at one element, and that they are one array.
-/
module

public import proofs.«01_k».proof.Proof.Table
public import proofs.«01_k».proof.Proof.Lookup
public import proofs.«01_k».proof.Proof.Gen.ReferenceIdeal.Run

@[expose] public section

noncomputable section

namespace Cert.Proof.Edge

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch (rowBack rowsBack_join wp_gatherBatch)

variable {F : FTy → Type}

local notation "𝕄" => MT nD τ sig (HIx 1) (Elt F) ℕ UU ℕ

section Values

open Idealize.ShloMosaic.ValueIdx

/-! ## The reference at one element -/

section Reference

variable (m : (ℓ : Loc Cert.ReferenceIdeal.nD Cert.ReferenceIdeal.τ Cert.ReferenceIdeal.sig) → Buf (Elt Ideal) ℓ) (c : Dev Cert.ReferenceIdeal.nD)

/-- The reference's arguments on a device. -/
def refE : (⟨2, ![320000, 2]⟩ : Shape).Idx → BitVec 32 := m ((c.tc : Thread Cert.ReferenceIdeal.nD Cert.ReferenceIdeal.τ).loc Cert.ReferenceIdeal.main_arg0)
def refA : (⟨2, ![6, 128]⟩ : Shape).Idx → EReal := m ((c.tc : Thread Cert.ReferenceIdeal.nD Cert.ReferenceIdeal.τ).loc Cert.ReferenceIdeal.main_arg1)
def refB : (⟨2, ![3, 128]⟩ : Shape).Idx → EReal := m ((c.tc : Thread Cert.ReferenceIdeal.nD Cert.ReferenceIdeal.τ).loc Cert.ReferenceIdeal.main_arg2)

/-- With its attributes below three, the reference's result at edge `e` is the first table's row of its first attribute
    and the second's row of its second, added. -/
theorem ref_at (hE : ∀ i, (refE m c i).toNat < 3) (e : Fin 320000) (j : Fin 128) (a b : Fin 3)
    (ha : refE m c (ix2 e (0 : Fin 2)) = BitVec.ofNat 32 a.val) (hb : refE m c (ix2 e (1 : Fin 2)) = BitVec.ofNat 32 b.val) :
    (Cert.ReferenceIdeal.Value.res_main_v6 (F := Ideal) m c : (⟨2, ![320000, 128]⟩ : Shape).Idx → EReal) (ix2 e j)
      = refA m c (ix2 (⟨a.val, by omega⟩ : Fin 6) j) + refB m c (ix2 b j) := by
  have c0 := fun i => column_at (refE m c) 0 Cert.ReferenceIdeal.Facts₀.slices_S320000x2_S320000x1_0_0 Cert.ReferenceIdeal.Facts₀.shapeCasts_S320000x1_S320000 0 rfl i
  have c1 := fun i => column_at (refE m c) 1 Cert.ReferenceIdeal.Facts₀.slices_S320000x2_S320000x1_0_1 Cert.ReferenceIdeal.Facts₀.shapeCasts_S320000x1_S320000 1 rfl i
  have w0 := fun top i => (wrapped_at _ (fun _ => 0#32) top (fun _ => rfl) (fun i => (congrArg BitVec.toNat (c0 i)).trans_lt (hE _))
    Cert.ReferenceIdeal.Facts₀.bcast_S320000_S320000x1_0 i).trans (c0 _)
  have w1 := fun top i => (wrapped_at _ (fun _ => 0#32) top (fun _ => rfl) (fun i => (congrArg BitVec.toNat (c1 i)).trans_lt (hE _))
    Cert.ReferenceIdeal.Facts₀.bcast_S320000_S320000x1_0 i).trans (c1 _)
  unfold Cert.ReferenceIdeal.Value.res_main_v6
  refine congrArg₂ (fun x y : EReal => x + y) ?_ ?_
  · exact lookup_at _ rfl rfl rfl rfl rfl (refA m c) _ _ _ _ _ _ 5#32 _ _ (fun i => (congrArg BitVec.toNat (w0 _ i)).trans_lt (hE _)) (fun _ => rfl)
      (fun _ => rfl) (.inr rfl) (fun _ => rfl) (by decide) e j _ ((w0 _ _).trans ha)
  · exact lookup_at _ rfl rfl rfl rfl rfl (refB m c) _ _ _ _ _ _ 2#32 _ _ (fun i => (congrArg BitVec.toNat (w1 _ i)).trans_lt (hE _)) (fun _ => rfl)
      (fun _ => rfl) (.inl rfl) (fun _ => rfl) (by decide) e j _ ((w1 _ _).trans hb)

end Reference

/-! ## The kernel's result at one element -/

section Kernel

variable (m : (ℓ : Loc nD τ sig) → Buf (Elt Ideal) ℓ) (d : Dev nD)

/-- The edges' attributes on a device. -/
def attE : (⟨2, ![320000, 2]⟩ : Shape).Idx → BitVec 32 := m (d.tc.loc main_arg0)

/-- Attribute `k` of edge `e`, where the kernel finds it. -/
theorem attr_at (e : Fin 320000) (k : Fin 2) (p : ℕ) (hp : p = k.val * 320000 + e.val) : attrAt (ATm m d) p = attE m d (ix2 e k) := by
  have hlt : p < 640000 := by have := e.isLt; have := k.isLt; omega
  unfold attrAt
  rw [dif_pos hlt]
  exact ravel_at (attE m d) _ _ e k _ hp

/-- Row `3 a + b` as an index of the table of sums. -/
theorem cix_eq (r : Fin 18) (j : Fin 128) : cix r.val j = ix2 r j := by
  funext a
  match a with
  | 0 => exact Fin.ext (Nat.mod_eq_of_lt r.isLt)
  | 1 => rfl

/-- The kernel's result at edge `e` is the same sum. -/
theorem out_at (e : Fin 320000) (j : Fin 128) (a b : Fin 3)
    (ha : attE m d (ix2 e (0 : Fin 2)) = BitVec.ofNat 32 a.val) (hb : attE m d (ix2 e (1 : Fin 2)) = BitVec.ofNat 32 b.val) :
    (outV (CTm m) (ATm m) d : (⟨2, ![320000, 128]⟩ : Shape).Idx → EReal) (ix2 e j)
      = tabA m d (ix2 (⟨a.val, by omega⟩ : Fin 6) j) + tabB m d (ix2 b j) := by
  have hw : (word (ATm m d) e.val).toNat = 3 * a.val + b.val := by
    unfold word
    rw [attr_at m d e 0 e.val (by simp), attr_at m d e 1 (320000 + e.val) (by simp), ha, hb]
    exact (by decide : ∀ a b : Fin 3, (BitVec.ofNat 32 a.val * 3#32 + BitVec.ofNat 32 b.val).toNat = 3 * a.val + b.val) a b
  have hr : 3 * a.val + b.val < 18 := by have := a.isLt; have := b.isLt; omega
  show (CTm m d : S18x128.Idx → EReal) (cix (word (ATm m d) e.val).toNat j) = _
  rw [hw, cix_eq ⟨3 * a.val + b.val, hr⟩ j]
  exact CTm_at d ⟨3 * a.val + b.val, hr⟩ j m a b (by show (3 * a.val + b.val) / 3 = a.val; have := b.isLt; omega)
    (by show (3 * a.val + b.val) % 3 = b.val; have := b.isLt; omega)

end Kernel

/-- A word below three, as a row. -/
theorem row_of (w : BitVec 32) (h : w.toNat < 3) : ∃ a : Fin 3, w = BitVec.ofNat 32 a.val :=
  ⟨⟨w.toNat, h⟩, (BitVec.ofNat_toNat 32 w).symm ▸ (BitVec.setWidth_eq w).symm⟩

/-- The kernel's result and the reference's are one array. -/
theorem result_eq (m : (ℓ : Loc nD τ sig) → Buf (Elt Ideal) ℓ) (d : Dev nD)
    (m' : (ℓ : Loc Cert.ReferenceIdeal.nD Cert.ReferenceIdeal.τ Cert.ReferenceIdeal.sig) → Buf (Elt Ideal) ℓ) (c : Dev Cert.ReferenceIdeal.nD)
    (hE : ∀ i, (attE m d i).toNat < 3) (h0 : refE m' c = attE m d) (h1 : refA m' c = tabA m d) (h2 : refB m' c = tabB m d) :
    (Cert.ReferenceIdeal.Value.res_main_v6 (F := Ideal) m' c : (⟨2, ![320000, 128]⟩ : Shape).Idx → EReal) = outV (CTm m) (ATm m) d := by
  funext x
  obtain ⟨e, j, rfl⟩ : ∃ (e : Fin 320000) (j : Fin 128), x = ix2 e j := ⟨_, _, eq_ix2 x⟩
  obtain ⟨a, ha⟩ := row_of _ (hE (ix2 e (0 : Fin 2)))
  obtain ⟨b, hb⟩ := row_of _ (hE (ix2 e (1 : Fin 2)))
  rw [ref_at m' c (by rw [h0]; exact hE) e j a b (by rw [h0]; exact ha) (by rw [h0]; exact hb), h1, h2]
  exact (out_at m d e j a b ha hb).symm

end Values

end Cert.Proof.Edge

end
-- ==== Proof.lean ====
/-
  The certificate's claims, from the modules that prove them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem

/-- The reference runs, its arguments unchanged, every semaphore at zero at the end. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

/-- Over the extended reals, from attributes in range, the kernel and the reference leave the same result: each edge's row is
    its first attribute's row of the first table and its second's of the second, added. -/
theorem algebraic : Cert.algebraic_KernelIdeal_ReferenceIdeal := by
  intro m g m' g' hpre hag
  refine ⟨fun c => Edge.outV (Edge.CTm m) (Edge.ATm m) c, ?_, ?_⟩
  · exact (θ_run Cert.KernelIdeal.defs _ _).mono
      (fun _ h c => ⟨(h.1 c).2.2.2, (h.1 c).1, (h.1 c).2.1, (h.1 c).2.2.1⟩)
      (Edge.run_main (F := Ideal) m g (Edge.att_lt (F := Ideal) m hpre))
  · exact (θ_run Cert.ReferenceIdeal.defs _ _).mono
      (fun _ h c => ⟨(h c).1.trans (Edge.result_eq m c m' c (fun i => Edge.pre_lt _ _ _ (hpre c) i) (hag c).1 (hag c).2.1 (hag c).2.2), (h c).2⟩)
      (Cert.ReferenceIdeal.Value.run (F := Ideal) m' g')

/-- The certificate's claims. -/
theorem claim : Cert.Claim := ⟨Cert.Kernel.Gen.facts, Cert.KernelIdeal.Gen.facts, Cert.ReferenceIdeal.Gen.facts, Cert.Pre_in_range.Gen.facts,
  Edge.frame_kernel, Edge.frame_kernelIdeal, frame_reference, trivial, algebraic⟩

end Cert.Proof

end
